-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "scale" .f32 0x3DB504F3#32 (((Real.sqrt 128)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x8x128 : Shape := ⟨3, ![4096, 8, 128]⟩
abbrev S4096x2x128 : Shape := ⟨3, ![4096, 2, 128]⟩
abbrev S5 : Shape := ⟨1, ![5]⟩
abbrev S_ : Shape := ⟨0, ![]⟩
abbrev S4096x128 : Shape := ⟨2, ![4096, 128]⟩
abbrev S128x3 : Shape := ⟨2, ![128, 3]⟩
abbrev S3 : Shape := ⟨1, ![3]⟩

class Facts : Prop where
  bcast_S_S4096x8x128 : S_.BroadcastsInDim S4096x8x128 (![] : Fin 0 → Fin S4096x8x128.rank)
  bcast_S_S4096x2x128 : S_.BroadcastsInDim S4096x2x128 (![] : Fin 0 → Fin S4096x2x128.rank)
  bcast_S_S4096x128 : S_.BroadcastsInDim S4096x128 (![] : Fin 0 → Fin S4096x128.rank)

variable [Facts]

def fn {F : FTy → Type} [FloatOps F] (main_arg0 : FVec F S4096x8x128 .f32) (main_arg1 : FVec F S4096x2x128 .f32) (main_arg2 : FVec F S4096x2x128 .f32) (main_arg3 : IVec S5 32) (main_arg4 : IVec S_ 32) (main_arg5 : FVec F S4096x128 .f32) (main_arg6 : FVec F S4096x128 .f32) (main_arg7 : FVec F S128x3 .f32) (main_arg8 : FVec F S3 .f32) : IVec S4096x8x128 1 × IVec S4096x2x128 1 × IVec S4096x128 1 :=
  let main_v0 : FVec F S4096x8x128 .f32 := Host.absf main_arg0
  let main_cst : FVec F S_ .f32 := constant S_ .f32 0x7F800000#32
  let main_v1 : FVec F S4096x8x128 .f32 := broadcastInDim S4096x8x128 ![] bcast_S_S4096x8x128 main_cst
  let main_v2 : IVec S4096x8x128 1 := cmpf .olt main_v0 main_v1
  let main_v3 : FVec F S4096x2x128 .f32 := Host.absf main_arg1
  let main_cst_0 : FVec F S_ .f32 := constant S_ .f32 0x7F800000#32
  let main_v4 : FVec F S4096x2x128 .f32 := broadcastInDim S4096x2x128 ![] bcast_S_S4096x2x128 main_cst_0
  let main_v5 : IVec S4096x2x128 1 := cmpf .olt main_v3 main_v4
  let main_v6 : FVec F S4096x128 .f32 := Host.absf main_arg5
  let main_cst_1 : FVec F S_ .f32 := constant S_ .f32 0x7F800000#32
  let main_v7 : FVec F S4096x128 .f32 := broadcastInDim S4096x128 ![] bcast_S_S4096x128 main_cst_1
  let main_v8 : IVec S4096x128 1 := cmpf .olt main_v6 main_v7
  (main_v2, main_v5, main_v8)
-- ==== Kernel.lean ====
abbrev S4096x8x128 : Shape := ⟨3, ![4096, 8, 128]⟩
abbrev S4096x2x128 : Shape := ⟨3, ![4096, 2, 128]⟩
abbrev S5 : Shape := ⟨1, ![5]⟩
abbrev S_ : Shape := ⟨0, ![]⟩
abbrev S4096x128 : Shape := ⟨2, ![4096, 128]⟩
abbrev S128x3 : Shape := ⟨2, ![128, 3]⟩
abbrev S3 : Shape := ⟨1, ![3]⟩
abbrev S4x1024x2x128 : Shape := ⟨4, ![4, 1024, 2, 128]⟩
abbrev S4x2x1024x128 : Shape := ⟨4, ![4, 2, 1024, 128]⟩
abbrev S8x1024x128 : Shape := ⟨3, ![8, 1024, 128]⟩
abbrev S4x1024x2x4x128 : Shape := ⟨5, ![4, 1024, 2, 4, 128]⟩
abbrev S4x2x4x1024x128 : Shape := ⟨5, ![4, 2, 4, 1024, 128]⟩
abbrev S8x4x1024x128 : Shape := ⟨4, ![8, 4, 1024, 128]⟩
abbrev S512x2048 : Shape := ⟨2, ![512, 2048]⟩
abbrev S2048x128 : Shape := ⟨2, ![2048, 128]⟩
abbrev S128x8 : Shape := ⟨2, ![128, 8]⟩
abbrev S1 : Shape := ⟨1, ![1]⟩
abbrev S1x8 : Shape := ⟨2, ![1, 8]⟩
abbrev S2 : Shape := ⟨1, ![2]⟩
abbrev S512x128 : Shape := ⟨2, ![512, 128]⟩
abbrev S64x2048 : Shape := ⟨2, ![64, 2048]⟩
abbrev S64x128 : Shape := ⟨2, ![64, 128]⟩
abbrev S63x128 : Shape := ⟨2, ![63, 128]⟩
abbrev S1x128 : Shape := ⟨2, ![1, 128]⟩
abbrev S1x4x128x128 : Shape := ⟨4, ![1, 4, 128, 128]⟩
abbrev S1x512x128 : Shape := ⟨3, ![1, 512, 128]⟩
abbrev S1x128x1x4x128 : Shape := ⟨5, ![1, 128, 1, 4, 128]⟩
abbrev S128x1 : Shape := ⟨2, ![128, 1]⟩
abbrev S1x1x128x128 : Shape := ⟨4, ![1, 1, 128, 128]⟩
abbrev S128x128 : Shape := ⟨2, ![128, 128]⟩
abbrev S128x64 : Shape := ⟨2, ![128, 64]⟩
abbrev S128 : Shape := ⟨1, ![128]⟩
abbrev S64x16 : Shape := ⟨2, ![64, 16]⟩
abbrev S128x16 : Shape := ⟨2, ![128, 16]⟩
abbrev S16 : Shape := ⟨1, ![16]⟩
abbrev S1x16 : Shape := ⟨2, ![1, 16]⟩
abbrev S16x512 : Shape := ⟨2, ![16, 512]⟩
abbrev S128x512 : Shape := ⟨2, ![128, 512]⟩
abbrev S1x384x128 : Shape := ⟨3, ![1, 384, 128]⟩
abbrev S384x128 : Shape := ⟨2, ![384, 128]⟩
abbrev S128x384 : Shape := ⟨2, ![128, 384]⟩
abbrev S1x128x1x1x128 : Shape := ⟨5, ![1, 128, 1, 1, 128]⟩
abbrev S1x1024x128 : Shape := ⟨3, ![1, 1024, 128]⟩
abbrev S1024x128 : Shape := ⟨2, ![1024, 128]⟩
abbrev S16x1024 : Shape := ⟨2, ![16, 1024]⟩
abbrev S128x1024 : Shape := ⟨2, ![128, 1024]⟩

abbrev nBuf : Space → Nat
  | .hbm => 42
  | .vmem => 40
  | .smem => 0
  | _ => 0

abbrev bufTy : (tb : Table) → Fin (tcTables nBuf tb) → BufTy
  | .hbm, ⟨0, _⟩ => ⟨S4096x8x128, .f32⟩
  | .hbm, ⟨1, _⟩ => ⟨S4096x2x128, .f32⟩
  | .hbm, ⟨2, _⟩ => ⟨S4096x2x128, .f32⟩
  | .hbm, ⟨3, _⟩ => ⟨S5, .i32⟩
  | .hbm, ⟨4, _⟩ => ⟨S_, .i32⟩
  | .hbm, ⟨5, _⟩ => ⟨S4096x128, .f32⟩
  | .hbm, ⟨6, _⟩ => ⟨S4096x128, .f32⟩
  | .hbm, ⟨7, _⟩ => ⟨S128x3, .f32⟩
  | .hbm, ⟨8, _⟩ => ⟨S3, .f32⟩
  | .hbm, ⟨9, _⟩ => ⟨S4x1024x2x128, .f32⟩
  | .hbm, ⟨10, _⟩ => ⟨S4x2x1024x128, .f32⟩
  | .hbm, ⟨11, _⟩ => ⟨S8x1024x128, .f32⟩
  | .hbm, ⟨12, _⟩ => ⟨S4x1024x2x128, .f32⟩
  | .hbm, ⟨13, _⟩ => ⟨S4x2x1024x128, .f32⟩
  | .hbm, ⟨14, _⟩ => ⟨S8x1024x128, .f32⟩
  | .hbm, ⟨15, _⟩ => ⟨S4x1024x2x4x128, .f32⟩
  | .hbm, ⟨16, _⟩ => ⟨S4x2x4x1024x128, .f32⟩
  | .hbm, ⟨17, _⟩ => ⟨S8x4x1024x128, .f32⟩
  | .hbm, ⟨18, _⟩ => ⟨S512x2048, .f32⟩
  | .hbm, ⟨19, _⟩ => ⟨S512x2048, .f32⟩
  | .hbm, ⟨20, _⟩ => ⟨S2048x128, .f32⟩
  | .hbm, ⟨21, _⟩ => ⟨S2048x128, .f32⟩
  | .hbm, ⟨22, _⟩ => ⟨S2048x128, .f32⟩
  | .hbm, ⟨23, _⟩ => ⟨S2048x128, .f32⟩
  | .hbm, ⟨24, _⟩ => ⟨S_, .f32⟩
  | .hbm, ⟨25, _⟩ => ⟨S128x8, .f32⟩
  | .hbm, ⟨26, _⟩ => ⟨S_, .i32⟩
  | .hbm, ⟨27, _⟩ => ⟨S1, .i32⟩
  | .hbm, ⟨28, _⟩ => ⟨S128x8, .f32⟩
  | .hbm, ⟨29, _⟩ => ⟨S_, .f32⟩
  | .hbm, ⟨30, _⟩ => ⟨S1x8, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S1x8, .f32⟩
  | .hbm, ⟨37, _⟩ => ⟨S512x128, .f32⟩
  | .hbm, ⟨38, _⟩ => ⟨S512x128, .f32⟩
  | .hbm, ⟨39, _⟩ => ⟨S4x1024x2x4x128, .f32⟩
  | .hbm, ⟨40, _⟩ => ⟨S4x1024x2x4x128, .f32⟩
  | .hbm, ⟨41, _⟩ => ⟨S4096x8x128, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | .local _ .vmem, ⟨12, _⟩ => ⟨S1x4x128x128, .f32⟩
  | .local _ .vmem, ⟨13, _⟩ => ⟨S1x4x128x128, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | .local _ .vmem, ⟨18, _⟩ => ⟨S64x128, .f32⟩
  | .local _ .vmem, ⟨19, _⟩ => ⟨S64x128, .f32⟩
  | .local _ .vmem, ⟨20, _⟩ => ⟨S64x128, .f32⟩
  | .local _ .vmem, ⟨21, _⟩ => ⟨S64x128, .f32⟩
  | .local _ .vmem, ⟨22, _⟩ => ⟨S128x8, .f32⟩
  | .local _ .vmem, ⟨23, _⟩ => ⟨S1x8, .f32⟩
  | .local _ .vmem, ⟨24, _⟩ => ⟨S1x128x1x4x128, .f32⟩
  | .local _ .vmem, ⟨25, _⟩ => ⟨S1x128x1x4x128, .f32⟩
  | .local _ .vmem, ⟨26, _⟩ => ⟨S1x4x128x128, .f32⟩
  | .local _ .vmem, ⟨27, _⟩ => ⟨S1x4x128x128, .f32⟩
  | .local _ .vmem, ⟨28, _⟩ => ⟨S1x1024x128, .f32⟩
  | .local _ .vmem, ⟨29, _⟩ => ⟨S1x1024x128, .f32⟩
  | .local _ .vmem, ⟨30, _⟩ => ⟨S1x1024x128, .f32⟩
  | .local _ .vmem, ⟨31, _⟩ => ⟨S1x1024x128, .f32⟩
  | .local _ .vmem, ⟨32, _⟩ => ⟨S64x128, .f32⟩
  | .local _ .vmem, ⟨33, _⟩ => ⟨S64x128, .f32⟩
  | .local _ .vmem, ⟨34, _⟩ => ⟨S64x128, .f32⟩
  | .local _ .vmem, ⟨35, _⟩ => ⟨S64x128, .f32⟩
  | .local _ .vmem, ⟨36, _⟩ => ⟨S128x8, .f32⟩
  | .local _ .vmem, ⟨37, _⟩ => ⟨S1x8, .f32⟩
  | .local _ .vmem, ⟨38, _⟩ => ⟨S1x128x1x4x128, .f32⟩
  | .local _ .vmem, ⟨39, _⟩ => ⟨S1x128x1x4x128, .f32⟩
  | _, _ => ⟨S4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_c_1 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23_0 : Ref sig .tc := ⟨.hbm, 37, rfl⟩
abbrev main_v23_1 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg7_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem6_0 : DmaSem sig := 23
abbrev cc1_sem7_0 : DmaSem sig := 24
abbrev cc1_sem7_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem4_1 : DmaSem sig := 35
abbrev cc2_sem5_0 : DmaSem sig := 36
abbrev cc2_sem6_0 : DmaSem sig := 37
abbrev cc2_sem7_0 : DmaSem sig := 38
abbrev cc2_sem7_1 : DmaSem sig := 39

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![8, 4], ![false, false]⟩

def k1_off1 (i : grid1.Coords) : Fin 3 → Nat :=
  let c0_63 : Index := 0#32
  let arg1 : BitVec 32 := BitVec.ofNat 32 (i 1).val
  let c0_i32 : BitVec 32 := 0#32
  let v0 : BitVec 32 := Scalar.addi arg1 c0_i32
  let c128_i32 : BitVec 32 := 128#32
  let v1 : BitVec 32 := Scalar.muli v0 c128_i32
  let c256_i32 : BitVec 32 := 256#32
  let v366 : BitVec 32 := Scalar.subi v1 c256_i32
  let c0_i32_62 : BitVec 32 := 0#32
  let v367 : BitVec 32 := Scalar.maxsi v366 c0_i32_62
  let v368 : Index := Scalar.indexCast v367
  let c0_64 : Index := 0#32
  ![0, v368.toNat, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![arg0.toNat, c0_i32_0.toNat, v0.toNat, c0_i32_1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi arg1 c0_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  let c0_i32_13 : BitVec 32 := 0#32
  ![v16.toNat, v17.toNat, v27.toNat, c0_i32_11.toNat, c0_i32_12.toNat]

abbrev stage1_0 : Fin 2 → Memref sig .tc .vmem S1x4x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S64x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S128x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x128x1x4x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![8, 4], ![false, false]⟩

def k2_off1 (i : grid2.Coords) : Fin 3 → Nat :=
  let c0_63 : Index := 0#32
  let arg1 : BitVec 32 := BitVec.ofNat 32 (i 1).val
  let c4_i32 : BitVec 32 := 4#32
  let v0 : BitVec 32 := Scalar.addi arg1 c4_i32
  let c128_i32 : BitVec 32 := 128#32
  let v1 : BitVec 32 := Scalar.muli v0 c128_i32
  let c256_i32 : BitVec 32 := 256#32
  let v366 : BitVec 32 := Scalar.subi v1 c256_i32
  let c0_i32_62 : BitVec 32 := 0#32
  let v367 : BitVec 32 := Scalar.maxsi v366 c0_i32_62
  let v368 : Index := Scalar.indexCast v367
  let c0_64 : Index := 0#32
  ![0, v368.toNat, 0]
def cc2_transform_0 (i : grid2.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![arg0.toNat, c0_i32.toNat, v0.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.addi arg1 c4_i32
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![v16.toNat, v17.toNat, v27.toNat, c0_i32_10.toNat, c0_i32_11.toNat]

abbrev stage2_0 : Fin 2 → Memref sig .tc .vmem S1x4x128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S64x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S64x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 1 → Memref sig .tc .vmem S128x8 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x8 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1x128x1x4x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S4096x8x128 : Shape := ⟨3, ![4096, 8, 128]⟩
abbrev S4096x2x128 : Shape := ⟨3, ![4096, 2, 128]⟩
abbrev S5 : Shape := ⟨1, ![5]⟩
abbrev S_ : Shape := ⟨0, ![]⟩
abbrev S4096x128 : Shape := ⟨2, ![4096, 128]⟩
abbrev S128x3 : Shape := ⟨2, ![128, 3]⟩
abbrev S3 : Shape := ⟨1, ![3]⟩
abbrev S4x1024x8x128 : Shape := ⟨4, ![4, 1024, 8, 128]⟩
abbrev S4x1024x2x128 : Shape := ⟨4, ![4, 1024, 2, 128]⟩
abbrev S4x1024x2x4x128 : Shape := ⟨5, ![4, 1024, 2, 4, 128]⟩
abbrev S1024 : Shape := ⟨1, ![1024]⟩
abbrev S63 : Shape := ⟨1, ![63]⟩
abbrev S63x1 : Shape := ⟨2, ![63, 1]⟩
abbrev S32 : Shape := ⟨1, ![32]⟩
abbrev S1x32 : Shape := ⟨2, ![1, 32]⟩
abbrev S63x32 : Shape := ⟨2, ![63, 32]⟩
abbrev S63x32x1 : Shape := ⟨3, ![63, 32, 1]⟩
abbrev S4x63x32x2x128 : Shape := ⟨5, ![4, 63, 32, 2, 128]⟩
abbrev S4x63x2x32x128 : Shape := ⟨5, ![4, 63, 2, 32, 128]⟩
abbrev S4x63x2x4096 : Shape := ⟨4, ![4, 63, 2, 4096]⟩
abbrev S4x63x2x128 : Shape := ⟨4, ![4, 63, 2, 128]⟩
abbrev S4x2x63x1024x4 : Shape := ⟨5, ![4, 2, 63, 1024, 4]⟩
abbrev S4x2x4x1024x63 : Shape := ⟨5, ![4, 2, 4, 1024, 63]⟩
abbrev S1x63 : Shape := ⟨2, ![1, 63]⟩
abbrev S1024x1 : Shape := ⟨2, ![1024, 1]⟩
abbrev S1024x63 : Shape := ⟨2, ![1024, 63]⟩
abbrev S1x1x1x1024x63 : Shape := ⟨5, ![1, 1, 1, 1024, 63]⟩
abbrev S4x2x4x1024 : Shape := ⟨4, ![4, 2, 4, 1024]⟩
abbrev S4x2x4x1024x1 : Shape := ⟨5, ![4, 2, 4, 1024, 1]⟩
abbrev S1x1x1x1024x1 : Shape := ⟨5, ![1, 1, 1, 1024, 1]⟩
abbrev S4x2x128x4x1024 : Shape := ⟨5, ![4, 2, 128, 4, 1024]⟩
abbrev S4x2x1024x63 : Shape := ⟨4, ![4, 2, 1024, 63]⟩
abbrev S16 : Shape := ⟨1, ![16]⟩
abbrev S16x1 : Shape := ⟨2, ![16, 1]⟩
abbrev S1x5 : Shape := ⟨2, ![1, 5]⟩
abbrev S16x5 : Shape := ⟨2, ![16, 5]⟩
abbrev S16x5x1 : Shape := ⟨3, ![16, 5, 1]⟩
abbrev S4x2x1024x16x5 : Shape := ⟨5, ![4, 2, 1024, 16, 5]⟩
abbrev S1x1x1x16x5 : Shape := ⟨5, ![1, 1, 1, 16, 5]⟩
abbrev S4x2x1024x16 : Shape := ⟨4, ![4, 2, 1024, 16]⟩
abbrev S1x1x1x16 : Shape := ⟨4, ![1, 1, 1, 16]⟩
abbrev S4x2x1024x8 : Shape := ⟨4, ![4, 2, 1024, 8]⟩
abbrev S4x1024x8x3 : Shape := ⟨4, ![4, 1024, 8, 3]⟩
abbrev S1x1x1x3 : Shape := ⟨4, ![1, 1, 1, 3]⟩
abbrev S4x2x1024x8x1 : Shape := ⟨5, ![4, 2, 1024, 8, 1]⟩
abbrev S1x1x1x1x1024 : Shape := ⟨5, ![1, 1, 1, 1, 1024]⟩
abbrev S4x2x1024x8x1024 : Shape := ⟨5, ![4, 2, 1024, 8, 1024]⟩
abbrev S4x2x1024x1024 : Shape := ⟨4, ![4, 2, 1024, 1024]⟩
abbrev S1x1024 : Shape := ⟨2, ![1, 1024]⟩
abbrev S1024x1024 : Shape := ⟨2, ![1024, 1024]⟩
abbrev S1x1x1024x1024 : Shape := ⟨4, ![1, 1, 1024, 1024]⟩
abbrev S4x2x1024x1024x4 : Shape := ⟨5, ![4, 2, 1024, 1024, 4]⟩
abbrev S4x2x4x1024x1024 : Shape := ⟨5, ![4, 2, 4, 1024, 1024]⟩
abbrev S4x2x1x1024x1024 : Shape := ⟨5, ![4, 2, 1, 1024, 1024]⟩
abbrev S1x1x1x1024x1024 : Shape := ⟨5, ![1, 1, 1, 1024, 1024]⟩
abbrev S4x1024x8x1 : Shape := ⟨4, ![4, 1024, 8, 1]⟩

abbrev nBuf : Space → Nat
  | .hbm => 254
  | .vmem => 0
  | .smem => 0
  | _ => 0

abbrev hbmTy0_0 (i : Nat) : BufTy := match i % 128 with
  | 0 => ⟨S4096x8x128, .f32⟩
  | 1 => ⟨S4096x2x128, .f32⟩
  | 2 => ⟨S4096x2x128, .f32⟩
  | 3 => ⟨S5, .i32⟩
  | 4 => ⟨S_, .i32⟩
  | 5 => ⟨S4096x128, .f32⟩
  | 6 => ⟨S4096x128, .f32⟩
  | 7 => ⟨S128x3, .f32⟩
  | 8 => ⟨S3, .f32⟩
  | 9 => ⟨S_, .f32⟩
  | 10 => ⟨S_, .f32⟩
  | 11 => ⟨S_, .f32⟩
  | 12 => ⟨S_, .f32⟩
  | 13 => ⟨S4x1024x8x128, .f32⟩
  | 14 => ⟨S4x1024x2x128, .f32⟩
  | 15 => ⟨S4x1024x2x128, .f32⟩
  | 16 => ⟨S4x1024x2x4x128, .f32⟩
  | 17 => ⟨S1024, .i32⟩
  | 18 => ⟨S63, .i32⟩
  | 19 => ⟨S_, .i32⟩
  | 20 => ⟨S63, .i32⟩
  | 21 => ⟨S63, .i32⟩
  | 22 => ⟨S63x1, .i32⟩
  | 23 => ⟨S32, .i32⟩
  | 24 => ⟨S1x32, .i32⟩
  | 25 => ⟨S63x32, .i32⟩
  | 26 => ⟨S63x32, .i32⟩
  | 27 => ⟨S63x32, .i32⟩
  | 28 => ⟨S_, .i32⟩
  | 29 => ⟨S63x32, .i32⟩
  | 30 => ⟨S63x32, .i1⟩
  | 31 => ⟨S_, .i32⟩
  | 32 => ⟨S63x32, .i32⟩
  | 33 => ⟨S63x32, .i32⟩
  | 34 => ⟨S63x32, .i32⟩
  | 35 => ⟨S63x32x1, .i32⟩
  | 36 => ⟨S4x63x32x2x128, .f32⟩
  | 37 => ⟨S4x63x2x32x128, .f32⟩
  | 38 => ⟨S4x63x2x4096, .f32⟩
  | 39 => ⟨S_, .i32⟩
  | 40 => ⟨S63x32, .i32⟩
  | 41 => ⟨S63x32, .i1⟩
  | 42 => ⟨S_, .i32⟩
  | 43 => ⟨S63x32, .i32⟩
  | 44 => ⟨S63x32, .i32⟩
  | 45 => ⟨S63x32, .i32⟩
  | 46 => ⟨S63x32x1, .i32⟩
  | 47 => ⟨S4x63x32x2x128, .f32⟩
  | 48 => ⟨S4x63x2x32x128, .f32⟩
  | 49 => ⟨S4x63x2x4096, .f32⟩
  | 50 => ⟨S4x63x2x128, .f32⟩
  | 51 => ⟨S4x63x2x128, .f32⟩
  | 52 => ⟨S4x2x63x1024x4, .f32⟩
  | 53 => ⟨S4x2x4x1024x63, .f32⟩
  | 54 => ⟨S4x2x4x1024x63, .f32⟩
  | 55 => ⟨S4x2x4x1024x63, .f32⟩
  | 56 => ⟨S_, .i32⟩
  | 57 => ⟨S63, .i32⟩
  | 58 => ⟨S63, .i32⟩
  | 59 => ⟨S_, .i32⟩
  | 60 => ⟨S63, .i32⟩
  | 61 => ⟨S63, .i32⟩
  | 62 => ⟨S1x63, .i32⟩
  | 63 => ⟨S1024x1, .i32⟩
  | 64 => ⟨S1024x63, .i32⟩
  | 65 => ⟨S1024x63, .i32⟩
  | 66 => ⟨S1024x63, .i1⟩
  | 67 => ⟨S1x1x1x1024x63, .i1⟩
  | 68 => ⟨S_, .f32⟩
  | 69 => ⟨S_, .f32⟩
  | 70 => ⟨S4x2x4x1024x63, .i1⟩
  | 71 => ⟨S4x2x4x1024x63, .f32⟩
  | 72 => ⟨S4x2x4x1024x63, .f32⟩
  | 73 => ⟨S_, .f32⟩
  | 74 => ⟨S4x2x4x1024, .f32⟩
  | 75 => ⟨S_, .f32⟩
  | 76 => ⟨S4x2x4x1024, .f32⟩
  | 77 => ⟨S4x2x4x1024, .f32⟩
  | 78 => ⟨S4x2x4x1024x1, .f32⟩
  | 79 => ⟨S4x2x4x1024x63, .f32⟩
  | 80 => ⟨S4x2x4x1024x63, .f32⟩
  | 81 => ⟨S4x2x4x1024x63, .f32⟩
  | 82 => ⟨S_, .f32⟩
  | 83 => ⟨S4x2x4x1024, .f32⟩
  | 84 => ⟨S4x2x4x1024x1, .f32⟩
  | 85 => ⟨S4x2x4x1024x63, .f32⟩
  | 86 => ⟨S4x2x4x1024x63, .f32⟩
  | 87 => ⟨S_, .i1⟩
  | 88 => ⟨S1024, .i1⟩
  | 89 => ⟨S1024, .f32⟩
  | 90 => ⟨S1x1x1x1024x1, .f32⟩
  | 91 => ⟨S4x2x4x1024x63, .f32⟩
  | 92 => ⟨S4x2x4x1024x63, .f32⟩
  | 93 => ⟨S4x2x128x4x1024, .f32⟩
  | 94 => ⟨S4x1024x2x4x128, .f32⟩
  | 95 => ⟨S4x1024x8x128, .f32⟩
  | 96 => ⟨S_, .f32⟩
  | 97 => ⟨S4x2x1024x63, .f32⟩
  | 98 => ⟨S16, .i32⟩
  | 99 => ⟨S_, .i32⟩
  | 100 => ⟨S16, .i32⟩
  | 101 => ⟨S16, .i32⟩
  | 102 => ⟨S16x1, .i32⟩
  | 103 => ⟨S5, .i32⟩
  | 104 => ⟨S1x5, .i32⟩
  | 105 => ⟨S16x5, .i32⟩
  | 106 => ⟨S16x5, .i32⟩
  | 107 => ⟨S16x5, .i32⟩
  | 108 => ⟨S_, .i32⟩
  | 109 => ⟨S16x5, .i32⟩
  | 110 => ⟨S16x5, .i1⟩
  | 111 => ⟨S_, .i32⟩
  | 112 => ⟨S16x5, .i32⟩
  | 113 => ⟨S16x5, .i32⟩
  | 114 => ⟨S_, .i32⟩
  | 115 => ⟨S16x5, .i32⟩
  | 116 => ⟨S16x5, .i1⟩
  | 117 => ⟨S_, .i32⟩
  | 118 => ⟨S16x5, .i32⟩
  | 119 => ⟨S16x5, .i32⟩
  | 120 => ⟨S16x5, .i32⟩
  | 121 => ⟨S16x5x1, .i32⟩
  | 122 => ⟨S4x2x1024x16x5, .f32⟩
  | 123 => ⟨S1x1x1x16x5, .i1⟩
  | 124 => ⟨S1x1x1x16x5, .f32⟩
  | 125 => ⟨S4x2x1024x16x5, .f32⟩
  | 126 => ⟨S4x2x1024x16x5, .f32⟩
  | 127 => ⟨S_, .f32⟩
  | _ => ⟨S4096x8x128, .f32⟩

abbrev hbmTy0_1 (i : Nat) : BufTy := match i % 128 with
  | 0 => ⟨S4x2x1024x16, .f32⟩
  | 1 => ⟨S16x5, .i32⟩
  | 2 => ⟨S_, .i32⟩
  | 3 => ⟨S16, .i32⟩
  | 4 => ⟨S16, .f32⟩
  | 5 => ⟨S1x1x1x16, .f32⟩
  | 6 => ⟨S4x2x1024x16, .f32⟩
  | 7 => ⟨S4x2x1024x16, .f32⟩
  | 8 => ⟨S4x2x1024x8, .f32⟩
  | 9 => ⟨S4x2x1024x8, .i32⟩
  | 10 => ⟨S4x1024x8x3, .f32⟩
  | 11 => ⟨S1x1x1x3, .f32⟩
  | 12 => ⟨S4x1024x8x3, .f32⟩
  | 13 => ⟨S4x1024x8x3, .f32⟩
  | 14 => ⟨S4x1024x8x3, .f32⟩
  | 15 => ⟨S4x1024x8x3, .f32⟩
  | 16 => ⟨S_, .f32⟩
  | 17 => ⟨S4x1024x8x3, .f32⟩
  | 18 => ⟨S4x1024x8x3, .f32⟩
  | 19 => ⟨S_, .f32⟩
  | 20 => ⟨S4x1024x8x3, .f32⟩
  | 21 => ⟨S4x1024x8x3, .f32⟩
  | 22 => ⟨S_, .i32⟩
  | 23 => ⟨S_, .i32⟩
  | 24 => ⟨S1024, .i32⟩
  | 25 => ⟨S1024, .i32⟩
  | 26 => ⟨S1024, .i32⟩
  | 27 => ⟨S_, .i32⟩
  | 28 => ⟨S1024, .i32⟩
  | 29 => ⟨S1024, .i1⟩
  | 30 => ⟨S1024, .i32⟩
  | 31 => ⟨S1024, .i32⟩
  | 32 => ⟨S_, .i32⟩
  | 33 => ⟨S1024, .i32⟩
  | 34 => ⟨S1024, .i1⟩
  | 35 => ⟨S1024, .i1⟩
  | 36 => ⟨S_, .i32⟩
  | 37 => ⟨S1024, .i32⟩
  | 38 => ⟨S1024, .i32⟩
  | 39 => ⟨S1024, .i32⟩
  | 40 => ⟨S4x2x1024x8x1, .i32⟩
  | 41 => ⟨S1x1x1x1x1024, .i32⟩
  | 42 => ⟨S4x2x1024x8x1024, .i32⟩
  | 43 => ⟨S4x2x1024x8x1024, .i32⟩
  | 44 => ⟨S4x2x1024x8x1024, .i1⟩
  | 45 => ⟨S_, .i1⟩
  | 46 => ⟨S4x2x1024x1024, .i1⟩
  | 47 => ⟨S1x1024, .i32⟩
  | 48 => ⟨S1024x1, .i32⟩
  | 49 => ⟨S1024x1024, .i32⟩
  | 50 => ⟨S1024x1024, .i32⟩
  | 51 => ⟨S1024x1024, .i1⟩
  | 52 => ⟨S1x1x1024x1024, .i1⟩
  | 53 => ⟨S4x2x1024x1024, .i1⟩
  | 54 => ⟨S4x2x1024x1024, .i1⟩
  | 55 => ⟨S1024x1, .i32⟩
  | 56 => ⟨S1x1024, .i32⟩
  | 57 => ⟨S1024x1024, .i32⟩
  | 58 => ⟨S1024x1024, .i32⟩
  | 59 => ⟨S1024x1024, .i32⟩
  | 60 => ⟨S_, .i32⟩
  | 61 => ⟨S1024x1024, .i32⟩
  | 62 => ⟨S1024x1024, .i1⟩
  | 63 => ⟨S1024x1024, .i1⟩
  | 64 => ⟨S4x2x1024x1024x4, .f32⟩
  | 65 => ⟨S4x2x4x1024x1024, .f32⟩
  | 66 => ⟨S4x2x4x1024x1024, .f32⟩
  | 67 => ⟨S4x2x4x1024x1024, .f32⟩
  | 68 => ⟨S4x2x1x1024x1024, .i1⟩
  | 69 => ⟨S_, .f32⟩
  | 70 => ⟨S_, .f32⟩
  | 71 => ⟨S4x2x4x1024x1024, .i1⟩
  | 72 => ⟨S4x2x4x1024x1024, .f32⟩
  | 73 => ⟨S4x2x4x1024x1024, .f32⟩
  | 74 => ⟨S_, .f32⟩
  | 75 => ⟨S4x2x4x1024, .f32⟩
  | 76 => ⟨S_, .f32⟩
  | 77 => ⟨S4x2x4x1024, .f32⟩
  | 78 => ⟨S4x2x4x1024, .f32⟩
  | 79 => ⟨S4x2x4x1024x1, .f32⟩
  | 80 => ⟨S4x2x4x1024x1024, .f32⟩
  | 81 => ⟨S4x2x4x1024x1024, .f32⟩
  | 82 => ⟨S4x2x4x1024x1024, .f32⟩
  | 83 => ⟨S_, .f32⟩
  | 84 => ⟨S4x2x4x1024, .f32⟩
  | 85 => ⟨S4x2x4x1024x1, .f32⟩
  | 86 => ⟨S4x2x4x1024x1024, .f32⟩
  | 87 => ⟨S4x2x4x1024x1024, .f32⟩
  | 88 => ⟨S4x2x128x4x1024, .f32⟩
  | 89 => ⟨S4x1024x2x4x128, .f32⟩
  | 90 => ⟨S4x1024x8x128, .f32⟩
  | 91 => ⟨S1x1x1x1024x1024, .i1⟩
  | 92 => ⟨S_, .f32⟩
  | 93 => ⟨S_, .f32⟩
  | 94 => ⟨S4x2x4x1024x1024, .i1⟩
  | 95 => ⟨S4x2x4x1024x1024, .f32⟩
  | 96 => ⟨S4x2x4x1024x1024, .f32⟩
  | 97 => ⟨S_, .f32⟩
  | 98 => ⟨S4x2x4x1024, .f32⟩
  | 99 => ⟨S_, .f32⟩
  | 100 => ⟨S4x2x4x1024, .f32⟩
  | 101 => ⟨S4x2x4x1024, .f32⟩
  | 102 => ⟨S4x2x4x1024x1, .f32⟩
  | 103 => ⟨S4x2x4x1024x1024, .f32⟩
  | 104 => ⟨S4x2x4x1024x1024, .f32⟩
  | 105 => ⟨S4x2x4x1024x1024, .f32⟩
  | 106 => ⟨S_, .f32⟩
  | 107 => ⟨S4x2x4x1024, .f32⟩
  | 108 => ⟨S4x2x4x1024x1, .f32⟩
  | 109 => ⟨S4x2x4x1024x1024, .f32⟩
  | 110 => ⟨S4x2x4x1024x1024, .f32⟩
  | 111 => ⟨S4x2x128x4x1024, .f32⟩
  | 112 => ⟨S4x1024x2x4x128, .f32⟩
  | 113 => ⟨S4x1024x8x128, .f32⟩
  | 114 => ⟨S4x1024x8x1, .f32⟩
  | 115 => ⟨S4x1024x8x128, .f32⟩
  | 116 => ⟨S4x1024x8x128, .f32⟩
  | 117 => ⟨S4x1024x8x1, .f32⟩
  | 118 => ⟨S4x1024x8x128, .f32⟩
  | 119 => ⟨S4x1024x8x128, .f32⟩
  | 120 => ⟨S4x1024x8x128, .f32⟩
  | 121 => ⟨S4x1024x8x1, .f32⟩
  | 122 => ⟨S4x1024x8x128, .f32⟩
  | 123 => ⟨S4x1024x8x128, .f32⟩
  | 124 => ⟨S4x1024x8x128, .f32⟩
  | 125 => ⟨S4096x8x128, .f32⟩
  | _ => ⟨S4096x8x128, .f32⟩

abbrev hbmTy (i : Nat) : BufTy := match i / 128 with
  | 0 => hbmTy0_0 i
  | 1 => hbmTy0_1 i
  | _ => ⟨S4096x8x128, .f32⟩

abbrev bufTy : (tb : Table) → Fin (tcTables nBuf tb) → BufTy
  | .hbm, ⟨i, _⟩ => hbmTy i
  | _, _ => ⟨S4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_5 : Ref sig .tc := ⟨.hbm, 56, rfl⟩
abbrev main_v40 : Ref sig .tc := ⟨.hbm, 57, rfl⟩
abbrev main_v41 : Ref sig .tc := ⟨.hbm, 58, rfl⟩
abbrev main_c_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_v50 : Ref sig .tc := ⟨.hbm, 72, rfl⟩
abbrev main_cst_8 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_11 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_12 : Ref sig .tc := ⟨.hbm, 96, rfl⟩
abbrev main_v70 : Ref sig .tc := ⟨.hbm, 97, rfl⟩
abbrev main_v71 : Ref sig .tc := ⟨.hbm, 98, rfl⟩
abbrev main_c_13 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_c_14 : Ref sig .tc := ⟨.hbm, 108, rfl⟩
abbrev main_v80 : Ref sig .tc := ⟨.hbm, 109, rfl⟩
abbrev main_v81 : Ref sig .tc := ⟨.hbm, 110, rfl⟩
abbrev main_c_15 : Ref sig .tc := ⟨.hbm, 111, rfl⟩
abbrev main_v82 : Ref sig .tc := ⟨.hbm, 112, rfl⟩
abbrev main_v83 : Ref sig .tc := ⟨.hbm, 113, rfl⟩
abbrev main_c_16 : Ref sig .tc := ⟨.hbm, 114, rfl⟩
abbrev main_v84 : Ref sig .tc := ⟨.hbm, 115, rfl⟩
abbrev main_v85 : Ref sig .tc := ⟨.hbm, 116, rfl⟩
abbrev main_c_17 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_18 : Ref sig .tc := ⟨.hbm, 127, rfl⟩
abbrev main_v95 : Ref sig .tc := ⟨.hbm, 128, rfl⟩
abbrev main_v96 : Ref sig .tc := ⟨.hbm, 129, rfl⟩
abbrev main_c_19 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_values : Ref sig .tc := ⟨.hbm, 136, rfl⟩
abbrev main_indices : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_20 : Ref sig .tc := ⟨.hbm, 144, rfl⟩
abbrev main_v108 : Ref sig .tc := ⟨.hbm, 145, rfl⟩
abbrev main_v109 : Ref sig .tc := ⟨.hbm, 146, rfl⟩
abbrev main_cst_21 : Ref sig .tc := ⟨.hbm, 147, rfl⟩
abbrev main_v110 : Ref sig .tc := ⟨.hbm, 148, rfl⟩
abbrev main_v111 : Ref sig .tc := ⟨.hbm, 149, rfl⟩
abbrev main_c_22 : Ref sig .tc := ⟨.hbm, 150, rfl⟩
abbrev main_call1_v0 : Ref sig .tc := ⟨.hbm, 151, rfl⟩
abbrev main_call1_v1 : Ref sig .tc := ⟨.hbm, 152, rfl⟩
abbrev main_call1_v2 : Ref sig .tc := ⟨.hbm, 153, rfl⟩
abbrev main_call1_v3 : Ref sig .tc := ⟨.hbm, 154, rfl⟩
abbrev main_call1_v4 : Ref sig .tc := ⟨.hbm, 155, rfl⟩
abbrev main_call1_v5 : Ref sig .tc := ⟨.hbm, 156, rfl⟩
abbrev main_call1_v6 : Ref sig .tc := ⟨.hbm, 157, rfl⟩
abbrev main_call1_v7 : Ref sig .tc := ⟨.hbm, 158, rfl⟩
abbrev main_call1_v8 : Ref sig .tc := ⟨.hbm, 159, rfl⟩
abbrev main_call1_c : Ref sig .tc := ⟨.hbm, 160, rfl⟩
abbrev main_call1_v9 : Ref sig .tc := ⟨.hbm, 161, rfl⟩
abbrev main_call1_v10 : Ref sig .tc := ⟨.hbm, 162, rfl⟩
abbrev main_call1_v11 : Ref sig .tc := ⟨.hbm, 163, rfl⟩
abbrev main_call1_c_0 : Ref sig .tc := ⟨.hbm, 164, rfl⟩
abbrev main_call1_v12 : Ref sig .tc := ⟨.hbm, 165, rfl⟩
abbrev main_call1_v13 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_c_23 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_c_24 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_cst_25 : Ref sig .tc := ⟨.hbm, 197, rfl⟩
abbrev main_call2_v0 : Ref sig .tc := ⟨.hbm, 198, rfl⟩
abbrev main_call2_v1 : Ref sig .tc := ⟨.hbm, 199, rfl⟩
abbrev main_call2_v2 : Ref sig .tc := ⟨.hbm, 200, rfl⟩
abbrev main_v140 : Ref sig .tc := ⟨.hbm, 201, rfl⟩
abbrev main_cst_26 : Ref sig .tc := ⟨.hbm, 202, rfl⟩
abbrev main_v141 : Ref sig .tc := ⟨.hbm, 203, rfl⟩
abbrev main_cst_27 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_cst_28 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_cst_29 : Ref sig .tc := ⟨.hbm, 220, rfl⟩
abbrev main_call3_v0 : Ref sig .tc := ⟨.hbm, 221, rfl⟩
abbrev main_call3_v1 : Ref sig .tc := ⟨.hbm, 222, rfl⟩
abbrev main_call3_v2 : Ref sig .tc := ⟨.hbm, 223, rfl⟩
abbrev main_v156 : Ref sig .tc := ⟨.hbm, 224, rfl⟩
abbrev main_cst_30 : Ref sig .tc := ⟨.hbm, 225, rfl⟩
abbrev main_v157 : Ref sig .tc := ⟨.hbm, 226, rfl⟩
abbrev main_cst_31 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_cst_32 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩

abbrev nD : Nat := 1
abbrev τ : Topo := Topo.v7x

variable {F : FTy → Type} [FloatOps F]

def κ : String → Option EReal := fun
  | "mask" => some ⊥
  | "scale" => some (((Real.sqrt 128)⁻¹ : ℝ) : EReal)
  | _ => none
-- ==== Proof.Spec.lean ====
/- What both programs compute at one query position, as plain functions over the extended reals: the softmax of a row, the
   compressed branch, the block scores and their ranks, attention by unshifted weights and by softmax, and the gate. -/
module

public import Idealize.ShloMosaic.PureOps.Ideal
public import Idealize.ShloMosaic.Lib.Pointwise

@[expose] public section

noncomputable section

namespace Cert.Nsa

open Idealize.ShloMosaic

/-- The logits' scale: one over the square root of the head size. -/
def scale : EReal := (((Real.sqrt 128)⁻¹ : ℝ) : EReal)

/-- The greatest element of a row, `⊥` for none. -/
def top {n : ℕ} (x : Fin n → EReal) : EReal := Finset.univ.fold max ⊥ x

/-- The softmax of a row, shifted by its greatest element. -/
def soft {n : ℕ} (x : Fin n → EReal) (i : Fin n) : EReal :=
  Ideal.div (Ideal.exp (x i - top x)) (∑ j, Ideal.exp (x j - top x))

/-- The scaled inner product of a query row and a key row. -/
def logit (q k : Fin 128 → EReal) : EReal := (∑ d, q d * k d) * scale

/-- The compressed logits of the position `t`: a compressed block counts once its last position is at most `t`. -/
def clog {n : ℕ} (t : ℕ) (q : Fin 128 → EReal) (ck : Fin n → Fin 128 → EReal) (c : Fin n) : EReal :=
  if 16 * c.val + 31 ≤ t then logit q (ck c) else ⊥

/-- The compressed probabilities of the position `t`, zero before the first block is complete. -/
def cprob {n : ℕ} (t : ℕ) (q : Fin 128 → EReal) (ck : Fin n → Fin 128 → EReal) (c : Fin n) : EReal :=
  soft (clog t q ck) c * (if 31 ≤ t then 1 else 0)

/-- Does the compressed block `c` (of 63) overlap the selection block `m`. -/
def overlap (c : ℕ) (m : ℕ) : Prop := (4 * m ≤ c ∧ c ≤ 4 * m + 4) ∧ c < 63

instance (c m : ℕ) : Decidable (overlap c m) := by unfold overlap; infer_instance

/-- A zero-one weight. -/
def ind (p : Prop) [Decidable p] : EReal := if p then 1 else 0

/-- The score of the selection block `m`: the mean of the summed probabilities over the blocks that overlap it. -/
def score (s : Fin 64 → EReal) (m : Fin 16) : EReal :=
  Ideal.div (∑ c, s c * ind (overlap c.val m.val)) (∑ c : Fin 64, ind (overlap c.val m.val))

/-- How many selection blocks come before `m`: a greater score, or an equal score and a smaller index. -/
def rank (p : Fin 16 → EReal) (m : Fin 16) : ℕ :=
  (Finset.univ.filter fun m' => p m < p m' ∨ (p m' = p m ∧ m' < m)).card

/-- Is the key `pos` seen by the query `t` in the selected branch. -/
def seen (p : Fin 16 → EReal) (t pos : ℕ) : Prop := (∃ m : Fin 16, m.val = pos / 64 ∧ rank p m < 8) ∧ pos ≤ t

instance (p : Fin 16 → EReal) (t pos : ℕ) : Decidable (seen p t pos) := by unfold seen; infer_instance

/-- Is the key `pos` seen by the query `t` in the window branch. -/
def near (t pos : ℕ) : Prop := pos ≤ t ∧ t < pos + 256

instance (t pos : ℕ) : Decidable (near t pos) := by unfold near; infer_instance

/-- Attention by unshifted exponential weights under a zero-one mask `z`, divided at the end. -/
def lin {n : ℕ} (q : Fin 128 → EReal) (k v : Fin n → Fin 128 → EReal) (z : Fin n → EReal) (d : Fin 128) : EReal :=
  Ideal.div (∑ p, (Ideal.exp (logit q (k p)) * z p) * v p d) (∑ p, Ideal.exp (logit q (k p)) * z p)

/-- One of the gates: the logistic function of the query against a column of the gate's weights. -/
def gate {n : ℕ} (q : Fin 128 → EReal) (wg : Fin 128 → Fin n → EReal) (bg : Fin n → EReal) (j : Fin n) : EReal :=
  Ideal.logistic ((∑ d, q d * wg d j) + bg j)

/-- What the kernel computes for the head `g` at the position `t`, from the rows of its four heads, the keys and values it
    is given, the 384 keys and values of its window from position `woff`, and the compressed keys and values. -/
def rowK {n : ℕ} (t woff : ℕ) (Q : Fin 4 → Fin 128 → EReal) (K V : Fin n → Fin 128 → EReal)
    (KW VW : Fin 384 → Fin 128 → EReal) (CK CV : Fin 64 → Fin 128 → EReal) (WG : Fin 128 → Fin 8 → EReal)
    (BG : Fin 8 → EReal) (g : Fin 4) (d : Fin 128) : EReal :=
  gate (Q g) WG BG 0 * lin (Q g) K V
      (fun p => ind (seen (score fun c => cprob t (Q 0) CK c + cprob t (Q 1) CK c + cprob t (Q 2) CK c + cprob t (Q 3) CK c) t p.val)) d
    + gate (Q g) WG BG 1 * lin (Q g) KW VW (fun p => ind (near t (woff + p.val))) d
    + gate (Q g) WG BG 2 * ∑ c, cprob t (Q g) CK c * CV c d

end Cert.Nsa

end
-- ==== Proof.Whole.lean ====
/- The kernel's function of its arguments, as plain functions over the extended reals. -/
module

public import proofs.«01_k».proof.Proof.Spec

@[expose] public section
noncomputable section
namespace Cert.Nsa
open Idealize.ShloMosaic

/-- The row of position `t` of the sequence `b`. -/
def row (b : Fin 4) (t : Fin 1024) : Fin 4096 := ⟨1024 * b.val + t.val, by omega⟩

/-- The query head `g` of the key head `h`. -/
def head (h : Fin 2) (g : Fin 4) : Fin 8 := ⟨4 * h.val + g.val, by omega⟩

/-- A compressed row: the sixteen positions of chunk `c` against the upper weights, the next chunk's (the first chunk's
    after the last) against the lower. -/
def comp (k : Fin 4096 → Fin 2 → Fin 128 → EReal) (w : Fin 4096 → Fin 128 → EReal) (b : Fin 4) (h : Fin 2) (c : Fin 64) (d : Fin 128) : EReal :=
  (∑ e : Fin 2048, k (row b ⟨16 * c.val + e.val / 128, by omega⟩) h ⟨e.val % 128, by omega⟩ * w ⟨e.val, by omega⟩ d)
    + ∑ e : Fin 2048, k (row b ⟨16 * ((c.val + 1) % 64) + e.val / 128, by omega⟩) h ⟨e.val % 128, by omega⟩ * w ⟨2048 + e.val, by omega⟩ d

/-- The kernel's result at the head `g` of the key head `h` and the position `t` of the sequence `b`: the selected branch
    reads the first `n` keys, the window branch 384 keys from position `128 * (t / 128) - 256`. -/
def kerOut (n : ℕ) (hn : n ≤ 1024) (q : Fin 4096 → Fin 8 → Fin 128 → EReal) (k v : Fin 4096 → Fin 2 → Fin 128 → EReal)
    (wk wv : Fin 4096 → Fin 128 → EReal) (wg : Fin 128 → Fin 3 → EReal) (bg : Fin 3 → EReal)
    (b : Fin 4) (t : Fin 1024) (h : Fin 2) (g : Fin 4) (d : Fin 128) : EReal :=
  gate (q (row b t) (head h g)) wg bg 0 * lin (n := n) (q (row b t) (head h g)) (fun p => k (row b ⟨p.val, by omega⟩) h) (fun p => v (row b ⟨p.val, by omega⟩) h)
      (fun p => ind (seen (score fun c => cprob t.val (q (row b t) (head h 0)) (comp k wk b h) c + cprob t.val (q (row b t) (head h 1)) (comp k wk b h) c
        + cprob t.val (q (row b t) (head h 2)) (comp k wk b h) c + cprob t.val (q (row b t) (head h 3)) (comp k wk b h) c) t.val p.val)) d
    + gate (q (row b t) (head h g)) wg bg 1 * lin (n := 384) (q (row b t) (head h g)) (fun p => k (row b ⟨128 * (t.val / 128) - 256 + p.val, by omega⟩) h)
        (fun p => v (row b ⟨128 * (t.val / 128) - 256 + p.val, by omega⟩) h) (fun p => ind (near t.val (128 * (t.val / 128) - 256 + p.val))) d
    + gate (q (row b t) (head h g)) wg bg 2 * ∑ c, cprob t.val (q (row b t) (head h g)) (comp k wk b h) c * comp v wv b h c d

end Cert.Nsa
end
-- ==== Proof.Entry.lean ====
/- What the kernel's host operations hand to its three regions, at an index. -/
module

public import proofs.«01_k».proof.Proof.Gen.KernelIdeal.Frame
public import proofs.«01_k».proof.Proof.Spec
public import Idealize.ShloMosaic.Lib.Pipeline.ValueKit
public import Idealize.ShloMosaic.Lib.StableHlo.ReadAt
public import Idealize.ShloMosaic.Lib.Pointwise
public import Idealize.ShloMosaic.Lib.Routing.OpsSet
public import Idealize.ShloMosaic.Lib.Routing.OpsPair

@[expose] public section
noncomputable section
open Idealize.ShloMosaic Idealize.ShloMosaic.TcCoe Idealize.SL.Sem
namespace Cert.KernelIdeal.RefValue
open Cert.KernelIdeal Cert.KernelIdeal.Gen Cert.Nsa

/-- Three columns written into a wider array from column 0: read at one of the three. -/
theorem scatter_cols {α : Type} (x : S128x8.Idx → α) (i : IVec S1 32) (hi : ∀ k, i k = 0#32) (u : S128x3.Idx → α) (d : Fin 128) (j : Fin 8)
    (hj : j.val < 3) : Host.scatter scatter_S128x8_S1_S128x3_01_n_1_0 (fun _ b => b) x i u (ix2 d j) = u (ix2 d ⟨j.val, hj⟩) := by
  have key : ∀ k : S128x3.Idx, scatter_S128x8_S1_S128x3_01_n_1_0.resultIdx? k i = some (ix2 d j) ↔
      ((k 0).val = d.val ∧ (k 1).val = j.val) := by
    intro k
    rw [Routing.resultIdx?_eq_some]
    have e0 : scatter_S128x8_S1_S128x3_01_n_1_0.start k i 0 = 0 := rfl
    have e1 : scatter_S128x8_S1_S128x3_01_n_1_0.start k i 1 = 0 := by
      unfold ScatterDims.start
      split
      · rw [hi]; rfl
      · rfl
    have w0 : scatter_S128x8_S1_S128x3_01_n_1_0.window k 0 = (k 0).val := rfl
    have w1 : scatter_S128x8_S1_S128x3_01_n_1_0.window k 1 = (k 1).val := rfl
    constructor
    · intro h
      have h0 := h 0
      have h1 := h 1
      rw [e0, w0] at h0
      rw [e1, w1] at h1
      have h0' : (0 : ℤ) + ((k 0).val : ℤ) = (d.val : ℤ) := h0
      have h1' : (0 : ℤ) + ((k 1).val : ℤ) = (j.val : ℤ) := h1
      omega
    · rintro ⟨h0, h1⟩ a
      match a with
      | ⟨0, _⟩ =>
        change scatter_S128x8_S1_S128x3_01_n_1_0.start k i 0 + ((scatter_S128x8_S1_S128x3_01_n_1_0.window k 0 : ℕ) : ℤ) = (d.val : ℤ)
        rw [e0, w0]; omega
      | ⟨1, _⟩ =>
        change scatter_S128x8_S1_S128x3_01_n_1_0.start k i 1 + ((scatter_S128x8_S1_S128x3_01_n_1_0.window k 1 : ℕ) : ℤ) = (j.val : ℤ)
        rw [e1, w1]; omega
  refine Routing.scatter_set_hit _ x i u _ _ (fun k hk => ?_) (ix2 d ⟨j.val, hj⟩) ((key _).2 ⟨rfl, rfl⟩)
  obtain ⟨h0, h1⟩ := (key k).1 hk
  refine congrArg u (funext fun a => ?_)
  match a with
  | ⟨0, _⟩ => exact Fin.ext h0
  | ⟨1, _⟩ => exact Fin.ext h1

/-- Three entries written into a wider row from column 0: read at one of the three. -/
theorem scatter_row {α : Type} (x : S1x8.Idx → α) (i : IVec S2 32) (hi : ∀ k, i k = 0#32) (u : S3.Idx → α) (j : Fin 8)
    (hj : j.val < 3) : Host.scatter scatter_S1x8_S2_S3_0_0_01_0 (fun _ b => b) x i u (ix2 0 j) = u (ix1 ⟨j.val, hj⟩) := by
  have key : ∀ k : S3.Idx, scatter_S1x8_S2_S3_0_0_01_0.resultIdx? k i = some (ix2 0 j) ↔ (k 0).val = j.val := by
    intro k
    rw [Routing.resultIdx?_eq_some]
    have e : ∀ a, scatter_S1x8_S2_S3_0_0_01_0.start k i a = 0 := by
      intro a
      unfold ScatterDims.start
      split
      · rw [hi]; rfl
      · rfl
    have w0 : scatter_S1x8_S2_S3_0_0_01_0.window k 0 = 0 := rfl
    have w1 : scatter_S1x8_S2_S3_0_0_01_0.window k 1 = (k 0).val := rfl
    constructor
    · intro h
      have h1 := h 1
      rw [e, w1] at h1
      have h1' : (0 : ℤ) + ((k 0).val : ℤ) = (j.val : ℤ) := h1
      omega
    · intro h a
      match a with
      | ⟨0, _⟩ =>
        change scatter_S1x8_S2_S3_0_0_01_0.start k i 0 + ((scatter_S1x8_S2_S3_0_0_01_0.window k 0 : ℕ) : ℤ) = 0
        rw [e, w0]; rfl
      | ⟨1, _⟩ =>
        change scatter_S1x8_S2_S3_0_0_01_0.start k i 1 + ((scatter_S1x8_S2_S3_0_0_01_0.window k 1 : ℕ) : ℤ) = (j.val : ℤ)
        rw [e, w1]; omega
  refine Routing.scatter_set_hit _ x i u _ _ (fun k hk => ?_) (ix1 ⟨j.val, hj⟩) ((key _).2 rfl)
  refine congrArg u (funext fun a => ?_)
  match a with
  | ⟨0, _⟩ => exact Fin.ext ((key k).1 hk)

variable (m : (ℓ : Loc nD τ sig) → Buf (Elt Ideal) ℓ) (ρ : Dev nD → PrngReg) (c : Dev nD)

/-- The keys, pair of sequence and head by pair. -/
theorem W1_v2 (i : Fin 8) (s : Fin 1024) (d : Fin 128) :
    W1 m ρ c (Proc.devRef .tc main_v2) (ix3 i s d) = m ((c.tc : Thread nD τ).loc main_arg1) (ix3 ⟨1024 * (i.val / 2) + s.val, by omega⟩ ⟨i.val % 2, by omega⟩ d) := by
  after_reads_at
  exact congrArg (fun r => m ((c.tc : Thread nD τ).loc main_arg1) (ix3 r ⟨i.val % 2, by omega⟩ d)) (Fin.ext (by simp; omega))

/-- The values, pair of sequence and head by pair. -/
theorem W1_v5 (i : Fin 8) (s : Fin 1024) (d : Fin 128) :
    W1 m ρ c (Proc.devRef .tc main_v5) (ix3 i s d) = m ((c.tc : Thread nD τ).loc main_arg2) (ix3 ⟨1024 * (i.val / 2) + s.val, by omega⟩ ⟨i.val % 2, by omega⟩ d) := by
  after_reads_at
  exact congrArg (fun r => m ((c.tc : Thread nD τ).loc main_arg2) (ix3 r ⟨i.val % 2, by omega⟩ d)) (Fin.ext (by simp; omega))

/-- The queries, pair of sequence and key head by pair, the heads of a group together. -/
theorem W1_v8 (i : Fin 8) (g : Fin 4) (s : Fin 1024) (d : Fin 128) :
    W1 m ρ c (Proc.devRef .tc main_v8) (ix4 i g s d) = m ((c.tc : Thread nD τ).loc main_arg0) (ix3 ⟨1024 * (i.val / 2) + s.val, by omega⟩ ⟨4 * (i.val % 2) + g.val, by omega⟩ d) := by
  after_reads_at
  refine congrArg₂ (fun r h => m ((c.tc : Thread nD τ).loc main_arg0) (ix3 r h d)) (Fin.ext ?_) (Fin.ext ?_)
  · simp; omega
  · simp; omega

/-- The keys, sixteen positions to a row. -/
theorem W1_v9 (r : Fin 512) (e : Fin 2048) :
    W1 m ρ c (Proc.devRef .tc main_v9) (ix2 r e) = m ((c.tc : Thread nD τ).loc main_arg1)
      (ix3 ⟨1024 * (r.val / 64 / 2) + (16 * (r.val % 64) + e.val / 128), by omega⟩ ⟨r.val / 64 % 2, by omega⟩ ⟨e.val % 128, by omega⟩) := by
  after_reads_at
  exact congrArg (fun r' => m ((c.tc : Thread nD τ).loc main_arg1) (ix3 r' ⟨r.val / 64 % 2, by omega⟩ ⟨e.val % 128, by omega⟩)) (Fin.ext (by simp; omega))

/-- The values, sixteen positions to a row. -/
theorem W1_v10 (r : Fin 512) (e : Fin 2048) :
    W1 m ρ c (Proc.devRef .tc main_v10) (ix2 r e) = m ((c.tc : Thread nD τ).loc main_arg2)
      (ix3 ⟨1024 * (r.val / 64 / 2) + (16 * (r.val % 64) + e.val / 128), by omega⟩ ⟨r.val / 64 % 2, by omega⟩ ⟨e.val % 128, by omega⟩) := by
  after_reads_at
  exact congrArg (fun r' => m ((c.tc : Thread nD τ).loc main_arg2) (ix3 r' ⟨r.val / 64 % 2, by omega⟩ ⟨e.val % 128, by omega⟩)) (Fin.ext (by simp; omega))

/-- The upper half of the keys' compression weights. -/
theorem W1_v11 (e : Fin 2048) (d : Fin 128) :
    W1 m ρ c (Proc.devRef .tc main_v11) (ix2 e d) = m ((c.tc : Thread nD τ).loc main_arg5) (ix2 ⟨e.val, by omega⟩ d) := by
  after_reads_at

/-- The lower half of the keys' compression weights. -/
theorem W1_v12 (e : Fin 2048) (d : Fin 128) :
    W1 m ρ c (Proc.devRef .tc main_v12) (ix2 e d) = m ((c.tc : Thread nD τ).loc main_arg5) (ix2 ⟨2048 + e.val, by omega⟩ d) := by
  after_reads_at

/-- The upper half of the values' compression weights. -/
theorem W1_v13 (e : Fin 2048) (d : Fin 128) :
    W1 m ρ c (Proc.devRef .tc main_v13) (ix2 e d) = m ((c.tc : Thread nD τ).loc main_arg6) (ix2 ⟨e.val, by omega⟩ d) := by
  after_reads_at

/-- The lower half of the values' compression weights. -/
theorem W1_v14 (e : Fin 2048) (d : Fin 128) :
    W1 m ρ c (Proc.devRef .tc main_v14) (ix2 e d) = m ((c.tc : Thread nD τ).loc main_arg6) (ix2 ⟨2048 + e.val, by omega⟩ d) := by
  after_reads_at

/-- The gate's weights, padded to eight columns, at one of the first three. -/
theorem W1_v17 (d : Fin 128) (j : Fin 8) (hj : j.val < 3) :
    W1 m ρ c (Proc.devRef .tc main_v17) (ix2 d j) = m ((c.tc : Thread nD τ).loc main_arg7) (ix2 d ⟨j.val, hj⟩) := by
  after_reads_at
  exact scatter_cols _ _ (fun _ => rfl) _ d j hj

/-- The gate's biases, padded to eight, at one of the first three. -/
theorem W1_v22 (j : Fin 8) (hj : j.val < 3) :
    W1 m ρ c (Proc.devRef .tc main_v22) (ix2 0 j) = m ((c.tc : Thread nD τ).loc main_arg8) (ix1 ⟨j.val, hj⟩) := by
  after_reads_at
  refine scatter_row _ _ (fun k => ?_) _ j hj
  have h0 : ∀ j, StableHlo.upto hostOps0 (W0 m ρ c) 26 (Proc.tc.devRef main_v19) j = (0#32 : BitVec 32) := by
    intro j
    unfold StableHlo.upto
    after_reads_at
  have h1 : ∀ j, StableHlo.upto hostOps0 (W0 m ρ c) 26 (Proc.tc.devRef main_v20) j = (0#32 : BitVec 32) := by
    intro j
    unfold StableHlo.upto
    after_reads_at
  rw [funext h0, funext h1, ← ix1_eta k]
  pointwise
  exact ite_self _
end Cert.KernelIdeal.RefValue
end
-- ==== Proof.Comp.lean ====
/- The compression region: what its two output arrays hold. -/
module

public import proofs.«01_k».proof.Proof.Gen.KernelIdeal.Frame
public import proofs.«01_k».proof.Proof.Spec
public import Idealize.ShloMosaic.Lib.Pipeline.ValueKit
public import Idealize.ShloMosaic.Lib.Pointwise

@[expose] public section
noncomputable section
open Idealize.ShloMosaic Idealize.ShloMosaic.TcCoe Idealize.SL.Sem
namespace Cert.KernelIdeal.RefValue
open Cert.KernelIdeal Cert.KernelIdeal.Gen Cert.Nsa

/-- Row `i` of a block against the upper weights plus the row after it (the first after the last) against the lower. -/
def pairDot (x : Fin 64 → Fin 2048 → EReal) (wl wr : Fin 2048 → Fin 128 → EReal) (i : Fin 64) (d : Fin 128) : EReal :=
  (∑ e, x i e * wl e d) + ∑ e, x ⟨(i.val + 1) % 64, by omega⟩ e * wr e d

theorem pay1_apply (x : Vec Ideal S64x2048 .f32) (wl wr : Vec Ideal S2048x128 .f32) (i : Fin 64) (d : Fin 128) :
    k0_pay1 (F := Ideal) x wl wr (ix2 i d) = pairDot (fun i e => x (ix2 i e)) (fun e d => wl (ix2 e d)) (fun e d => wr (ix2 e d)) i d := by
  pointwise [k0_pay1]
  refine congrArg (fun z => (∑ e, x (ix2 i e) * wl (ix2 e d)) + z) ?_
  split
  · exact Finset.sum_congr rfl fun e _ => congrArg (fun r => x (ix2 r e) * wr (ix2 e d)) (Fin.ext (by simp; omega))
  · exact Finset.sum_congr rfl fun e _ => congrArg (fun r => x (ix2 r e) * wr (ix2 e d)) (Fin.ext (by simp; omega))

theorem pay2_apply (x : Vec Ideal S64x2048 .f32) (wl wr : Vec Ideal S2048x128 .f32) (i : Fin 64) (d : Fin 128) :
    k0_pay2 (F := Ideal) x wl wr (ix2 i d) = pairDot (fun i e => x (ix2 i e)) (fun e d => wl (ix2 e d)) (fun e d => wr (ix2 e d)) i d := pay1_apply x wl wr i d

theorem out0_6_apply (x0 x1 : Vec Ideal S64x2048 .f32) (x2 x3 x4 x5 : Vec Ideal S2048x128 .f32) (y : S64x128.Idx) :
    out0_6 (F := Ideal) x0 x1 x2 x3 x4 x5 y = pairDot (fun i e => x0 (ix2 i e)) (fun e d => x2 (ix2 e d)) (fun e d => x3 (ix2 e d)) (y 0) (y 1) := by
  frame_out
  exact (congrArg (k0_pay1 (F := Ideal) x0 x2 x3) (ix2_eta y).symm).trans (pay1_apply x0 x2 x3 (y 0) (y 1))

theorem out0_7_apply (x0 x1 : Vec Ideal S64x2048 .f32) (x2 x3 x4 x5 : Vec Ideal S2048x128 .f32) (y : S64x128.Idx) :
    out0_7 (F := Ideal) x0 x1 x2 x3 x4 x5 y = pairDot (fun i e => x1 (ix2 i e)) (fun e d => x4 (ix2 e d)) (fun e d => x5 (ix2 e d)) (y 0) (y 1) := by
  frame_out
  exact (congrArg (k0_pay2 (F := Ideal) x1 x4 x5) (ix2_eta y).symm).trans (pay2_apply x1 x4 x5 (y 0) (y 1))

variable (V : (c : Dev nD) → (b : Ref sig .tc) → Buf (Elt Ideal) ((c : Thread nD τ).loc b)) (c : Dev nD)

/-- Where the windows' blocks lie at each step. -/
theorem idx0 : ∀ t : Fin cfg0.N, win0_0.index t = ![(grid0.coords t 0).val, 0] ∧ win0_1.index t = ![(grid0.coords t 0).val, 0]
    ∧ win0_2.index t = ![0, 0] ∧ win0_3.index t = ![0, 0] ∧ win0_4.index t = ![0, 0] ∧ win0_5.index t = ![0, 0]
    ∧ win0_6.index t = ![(grid0.coords t 0).val, 0] ∧ win0_7.index t = ![(grid0.coords t 0).val, 0] :=
  (by decide +kernel : ∀ t : Fin grid0.N, _)

/-- The compressed keys after the region: each row from its own sixteen positions and the next sixteen of its block. -/
theorem ck_array : (dat0 V c).arrAt 6 cfg0.N = fun i => pairDot
    (fun r e => V c main_v9 (ix2 ⟨64 * ((i 0).val / 64) + r.val, by have := (i 0).isLt; change (i 0).val < 512 at this; omega⟩ e))
    (fun e d => V c main_v11 (ix2 e d)) (fun e d => V c main_v12 (ix2 e d)) ⟨(i 0).val % 64, by omega⟩ (i 1) := by
  refine (dat0 V c).arrAt_eq_of_covers 6 _ (by decide +kernel) fun t hf y => ?_
  blk_simp
  rw [after0_6, out0_6_apply]
  unfold pairDot
  refine congrArg₂ (fun a b : EReal => a + b) (Finset.sum_congr rfl fun e _ => congrArg₂ (fun a b : EReal => a * b) ?_ ?_)
    (Finset.sum_congr rfl fun e _ => congrArg₂ (fun a b : EReal => a * b) ?_ ?_)
  all_goals blk_ext [iblk0, idx0 t]

/-- The compressed values after the region, the same way. -/
theorem cv_array : (dat0 V c).arrAt 7 cfg0.N = fun i => pairDot
    (fun r e => V c main_v10 (ix2 ⟨64 * ((i 0).val / 64) + r.val, by have := (i 0).isLt; change (i 0).val < 512 at this; omega⟩ e))
    (fun e d => V c main_v13 (ix2 e d)) (fun e d => V c main_v14 (ix2 e d)) ⟨(i 0).val % 64, by omega⟩ (i 1) := by
  refine (dat0 V c).arrAt_eq_of_covers 7 _ (by decide +kernel) fun t hf y => ?_
  blk_simp
  rw [after0_7, out0_7_apply]
  unfold pairDot
  refine congrArg₂ (fun a b : EReal => a + b) (Finset.sum_congr rfl fun e _ => congrArg₂ (fun a b : EReal => a * b) ?_ ?_)
    (Finset.sum_congr rfl fun e _ => congrArg₂ (fun a b : EReal => a * b) ?_ ?_)
  all_goals blk_ext [iblk0, idx0 t]

end Cert.KernelIdeal.RefValue
end
-- ==== Proof.Block.lean ====
/- What one block of the two attention regions computes, read at an index: the payloads that both regions share. -/
module

public import proofs.«01_k».proof.Proof.Gen.KernelIdeal.Skeleton
public import proofs.«01_k».proof.Proof.Spec
public import Idealize.ShloMosaic.Lib.Pointwise
public import Idealize.ShloMosaic.Lib.WordCmp

@[expose] public section
noncomputable section
open Idealize.ShloMosaic Idealize.ShloMosaic.TcCoe Idealize.SL.Sem
namespace Cert.KernelIdeal.RefValue
open Cert.KernelIdeal Cert.KernelIdeal.Gen Cert.Nsa

/-- The named scale is one over the square root of 128. -/
theorem named_scale : Named.named (F := Ideal) κ "scale" (φ := .f32) 0x3DB504F3#32 = scale :=
  IdealRules.named_const.ideal_named_scalar _ _ _ _ rfl

/-- The named mask is minus infinity. -/
theorem named_mask : Named.named (F := Ideal) κ "mask" (φ := .f32) 0xF149F2CA#32 = ⊥ :=
  IdealRules.named_const.ideal_named_scalar _ _ _ _ rfl

/-- The pattern of minus infinity. -/
theorem ofBits_bot : Ideal.ofBits .f32 0xFF800000#32 = ⊥ := by
  simp [Ideal.ofBits, Ideal.ieee]

/-- A decided bit, widened and converted, is a zero-one weight. -/
theorem sitofp_bit (p : Prop) [Decidable p] :
    FloatOps.sitofp (F := Ideal) .f32 (BitVec.setWidth 32 (BitVec.ofBool (decide p))) = ind p := by
  unfold ind
  by_cases h : p <;> simp [h, FloatOps.sitofp]

/-- The compressed probabilities of one head of a block. -/
theorem cp_apply (q : FVec Ideal S128x128 .f32) (va : IVec S128x64 1) (hv : FVec Ideal S128x1 .f32)
    (ck : Vec Ideal S64x128 .f32) (t : Fin 128 → ℕ)
    (hva : ∀ r c, va (ix2 r c) = BitVec.ofBool (decide (16 * c.val + 31 ≤ t r)))
    (hhv : ∀ r, hv (ix2 r 0) = if 31 ≤ t r then 1 else 0) (r : Fin 128) (c : Fin 64) :
    k1_pay13 (F := Ideal) q va hv ck (ix2 r c)
      = cprob (t r) (fun d => q (ix2 r d)) (fun c d => ck (ix2 c d)) c := by
  pointwise [k1_pay13, k1_pay11]
  simp only [named_scale, named_mask, ofBits_bot, hva, hhv, WordCmp.select_decide, max_bot_left]
  rfl

/-- The scores of the selection blocks. -/
theorem score_apply (s : FVec Ideal S128x64 .f32) (r : Fin 128) (m : Fin 16) :
    k1_pay22 (F := Ideal) s (iota .tc S64x16 32 [0] iota_S64x16_d0_w32) k1_pay20 k1_pay21 1#32 (ix2 r m)
      = score (fun c => s (ix2 r c)) m := by
  have hw : ∀ x : Fin 64, (FloatOps.sitofp (F := Ideal) FTy.f32
            (BitVec.setWidth 32
              (IntOp.andi
                (IntOp.andi (IntOp.cmpi CmpIPredicate.sge (BitVec.ofNat 32 ↑x) (IntOp.muli (BitVec.ofNat 32 ↑m) 4#32))
                  (IntOp.cmpi CmpIPredicate.sle (BitVec.ofNat 32 ↑x)
                    (IntOp.subi (IntOp.addi (IntOp.muli (BitVec.ofNat 32 ↑m) 4#32) 5#32) 1#32)))
                (IntOp.cmpi CmpIPredicate.slt (BitVec.ofNat 32 ↑x) 63#32)))) = ind (overlap x.val m.val) := by
    intro x
    rw [← sitofp_bit]
    congr 2
    revert x m
    decide +kernel
  pointwise [k1_pay22, k1_pay20, k1_pay21]
  simp only [hw]
  rfl

/-- The rank as a sum of bits: one for each greater score, one for each equal score at a smaller index. -/
theorem rank_eq_sum (p : Fin 16 → EReal) (m : Fin 16) :
    rank p m = ∑ m', ((if p m < p m' then 1 else 0) + (if p m' = p m ∧ m'.val < m.val then 1 else 0)) := by
  unfold rank
  rw [Finset.card_filter]
  refine Finset.sum_congr rfl fun m' _ => ?_
  by_cases h1 : p m < p m'
  · have h2 : p m' ≠ p m := h1.ne'
    simp [h1, h2]
  · simp [h1]

/-- A sum over sixteen indices, written out. -/
theorem sum_sixteen (f : Fin 16 → ℕ) : ∑ m, f m
    = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

/-- The bits of a rank, added up as words. -/
theorem addi_bits (n : ℕ) (p : Prop) [Decidable p] :
    IntOp.addi (BitVec.ofNat 32 n) (BitVec.setWidth 32 (BitVec.ofBool (decide p))) = BitVec.ofNat 32 (n + if p then 1 else 0) := by
  unfold IntOp.addi
  by_cases h : p <;> simp [h, BitVec.ofNat_add]

theorem addi_bits' (n : ℕ) (p : Prop) [Decidable p] (a b : ℕ) (ha : a < 16) (hb : b < 16) :
    IntOp.addi (BitVec.ofNat 32 n) (BitVec.setWidth 32 (IntOp.andi (BitVec.ofBool (decide p))
      (IntOp.cmpi .sgt (BitVec.ofNat 32 a) (BitVec.ofNat 32 b)))) = BitVec.ofNat 32 (n + if p ∧ b < a then 1 else 0) := by
  rw [WordCmp.cmpi_sgt_ofNat (by omega) (by omega), WordCmp.andi_ofBool, ← Bool.decide_and, addi_bits]

/-- The payloads that count, composed: the zero-one weight of the selected blocks. -/
def selPay (p : FVec Ideal S128x16 .f32) (a : IVec S128x16 32) (p3 : FVec Ideal S128x1 .f32) : FVec Ideal S128x16 .f32 :=
  k1_pay32 p (iota .tc S128x16 32 [1] iota_S128x16_d1_w32)
    (k1_pay29 p (iota .tc S128x16 32 [1] iota_S128x16_d1_w32)
      (k1_pay26 p (iota .tc S128x16 32 [1] iota_S128x16_d1_w32) a p3) (k1_pay27 p) k1_pay28)
    (k1_pay30 p) (k1_pay31 p)

/-- The selected blocks: those that fewer than eight others precede. -/
theorem sel_apply (s : FVec Ideal S128x64 .f32) (p : FVec Ideal S128x16 .f32)
    (hp : k1_pay22 (F := Ideal) s (iota .tc S64x16 32 [0] iota_S64x16_d0_w32) k1_pay20 k1_pay21 1#32 = p) (r : Fin 128) (m : Fin 16) :
    selPay p (k1_pay23 s (iota .tc S64x16 32 [0] iota_S64x16_d0_w32) k1_pay20 k1_pay21 1#32)
        (k1_pay24 s (iota .tc S64x16 32 [0] iota_S64x16_d0_w32) k1_pay20 k1_pay21 1#32) (ix2 r m)
      = ind (rank (fun m => p (ix2 r m)) m < 8) := by
  have hm := m.isLt
  unfold selPay k1_pay23 k1_pay24
  rw [hp]
  pointwise [k1_pay32, k1_pay29, k1_pay26, k1_pay27, k1_pay28, k1_pay25, k1_pay31, k1_pay30]
  rw [rank_eq_sum]
  have h0 : (0#32 : BitVec 32) = BitVec.ofNat 32 0 := rfl
  simp (disch := omega) only [addi_bits, addi_bits']
  rw [← sitofp_bit]
  generalize hS : ∑ m' : Fin 16, ((if p (ix2 r m) < p (ix2 r m') then 1 else 0)
    + (if p (ix2 r m') = p (ix2 r m) ∧ m'.val < m.val then 1 else 0)) = S
  have hle : S ≤ 32 := by
    rw [← hS]
    refine (Finset.sum_le_sum (g := fun _ => 2) fun m' _ => ?_).trans (by simp)
    split_ifs <;> omega
  rw [← WordCmp.cmpi_slt_ofNat (w := 32) (a := S) (b := 8) (by omega) (by omega)]
  refine congrArg (fun w => FloatOps.sitofp (F := Ideal) FTy.f32 (BitVec.setWidth 32 (IntOp.cmpi .slt (BitVec.ofNat 32 w) 8#32))) ?_
  rw [← hS]
  rw [sum_sixteen]
  simp only [zero_add, ← add_assoc]
  rfl

end Cert.KernelIdeal.RefValue
end
-- ==== Proof.Head.lean ====
/- What one head of one block computes, read at an index, in each of the two attention regions. -/
module

public import proofs.«01_k».proof.Proof.Block

@[expose] public section
noncomputable section
open Idealize.ShloMosaic Idealize.ShloMosaic.TcCoe Idealize.SL.Sem
namespace Cert.KernelIdeal.RefValue
open Cert.KernelIdeal Cert.KernelIdeal.Gen Cert.Nsa

/-- One head of a block of the first region, which reads 512 keys: the three gated branches. -/
theorem head1_apply (q : FVec Ideal S128x128 .f32) (k v : FVec Ideal S512x128 .f32) (cv : FVec Ideal S64x128 .f32)
    (cp : FVec Ideal S128x64 .f32) (z : FVec Ideal S128x512 .f32) (kw vw : FVec Ideal S384x128 .f32)
    (a : IVec S128x384 1) (b e : IVec S128x384 32) (wg : Vec Ideal S128x8 .f32) (bg : Vec Ideal S1x8 .f32)
    (r d : Fin 128) :
    k1_pay43 (F := Ideal) q k v cv cp z kw vw a b e wg bg (ix2 r d)
      = gate (fun d => q (ix2 r d)) (fun d j => wg (ix2 d j)) (fun j => bg (ix2 0 j)) 0
          * lin (fun d => q (ix2 r d)) (fun p d => k (ix2 p d)) (fun p d => v (ix2 p d)) (fun p => z (ix2 r p)) d
        + gate (fun d => q (ix2 r d)) (fun d j => wg (ix2 d j)) (fun j => bg (ix2 0 j)) 1
          * lin (fun d => q (ix2 r d)) (fun p d => kw (ix2 p d)) (fun p d => vw (ix2 p d)) (fun p => k1_pay42 (F := Ideal) a b e (ix2 r p)) d
        + gate (fun d => q (ix2 r d)) (fun d j => wg (ix2 d j)) (fun j => bg (ix2 0 j)) 2
          * ∑ c, cp (ix2 r c) * cv (ix2 c d) := by
  pointwise [k1_pay43]
  simp only [named_scale]
  rfl

/-- One head of a block of the second region, which reads 1024 keys: the three gated branches. -/
theorem head2_apply (q : FVec Ideal S128x128 .f32) (k v : FVec Ideal S1024x128 .f32) (cv : FVec Ideal S64x128 .f32)
    (cp : FVec Ideal S128x64 .f32) (z : FVec Ideal S128x1024 .f32) (kw vw : FVec Ideal S384x128 .f32)
    (a : IVec S128x384 1) (b e : IVec S128x384 32) (wg : Vec Ideal S128x8 .f32) (bg : Vec Ideal S1x8 .f32)
    (r d : Fin 128) :
    k2_pay43 (F := Ideal) q k v cv cp z kw vw a b e wg bg (ix2 r d)
      = gate (fun d => q (ix2 r d)) (fun d j => wg (ix2 d j)) (fun j => bg (ix2 0 j)) 0
          * lin (fun d => q (ix2 r d)) (fun p d => k (ix2 p d)) (fun p d => v (ix2 p d)) (fun p => z (ix2 r p)) d
        + gate (fun d => q (ix2 r d)) (fun d j => wg (ix2 d j)) (fun j => bg (ix2 0 j)) 1
          * lin (fun d => q (ix2 r d)) (fun p d => kw (ix2 p d)) (fun p d => vw (ix2 p d)) (fun p => k1_pay42 (F := Ideal) a b e (ix2 r p)) d
        + gate (fun d => q (ix2 r d)) (fun d j => wg (ix2 d j)) (fun j => bg (ix2 0 j)) 2
          * ∑ c, cp (ix2 r c) * cv (ix2 c d) := by
  pointwise [k2_pay43]
  simp only [named_scale]
  rfl

/-- The first position of a window, as a word. -/
theorem window_word (j : Fin 8) :
    Scalar.maxsi (Scalar.subi (BitVec.ofNat 32 (128 * j.val)) 256#32) 0#32 = BitVec.ofNat 32 (128 * j.val - 256) := by
  revert j; decide +kernel

/-- The mask of the window: position `woff + p` within 256 positions before the query. -/
theorem near_apply (j : Fin 8) (v4 : IVec S128x1 32) (hv4 : ∀ r : Fin 128, v4 (ix2 r 0) = BitVec.ofNat 32 (128 * j.val + r.val))
    (r : Fin 128) (p : Fin 384) :
    k1_pay42 (F := Ideal) (k1_pay39 (BitVec.ofNat 32 (128 * j.val)) v4) (k1_pay40 (BitVec.ofNat 32 (128 * j.val)) v4) k1_pay41 (ix2 r p)
      = ind (near (128 * j.val + r.val) ((128 * j.val - 256) + p.val)) := by
  have hj := j.isLt
  have hr := r.isLt
  have hp := p.isLt
  have hadd : ∀ a b : ℕ, IntOp.addi (BitVec.ofNat 32 a) (BitVec.ofNat 32 b) = BitVec.ofNat 32 (a + b) := fun a b => by
    simp [IntOp.addi, BitVec.ofNat_add]
  pointwise [k1_pay42, k1_pay39, k1_pay40, k1_pay41, k1_pay38]
  rw [window_word, hv4, hadd, ← sitofp_bit]
  generalize hea : 128 * j.val - 256 + p.val = a
  generalize heb : 128 * j.val + r.val = b
  have ha : a < 2048 := by omega
  have hb : b < 2048 := by omega
  rw [WordCmp.cmpi_sle_ofNat (by omega) (by omega)]
  by_cases hab : a ≤ b
  · have hsub : IntOp.subi (BitVec.ofNat 32 b) (BitVec.ofNat 32 a) = BitVec.ofNat 32 (b - a) := by
      apply BitVec.eq_of_toNat_eq
      simp [IntOp.subi, BitVec.toNat_sub]
      omega
    rw [hsub, WordCmp.cmpi_slt_ofNat (by omega) (by omega), WordCmp.andi_ofBool, ← Bool.decide_and]
    have : (a ≤ b ∧ b - a < 256) ↔ near b a := by unfold near; omega
    simp only [this]
  · have hn : ¬ near b a := fun h => hab h.1
    simp [hab, hn, IntOp.andi]

/-- The quotient by 64 rounded down, as the kernel spells it. -/
theorem block_word (p : Fin 1024) :
    (Scalar.select
        (IntOp.andi
          (IntOp.cmpi CmpIPredicate.ne
            (IntOp.subi (BitVec.setWidth 32 (IntOp.cmpi CmpIPredicate.sgt (BitVec.ofNat 32 ↑p) 0#32))
              (BitVec.setWidth 32 (IntOp.cmpi CmpIPredicate.slt (BitVec.ofNat 32 ↑p) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 ↑p) 64#32) 0#32))
        (IntOp.subi (IntOp.divsi ArithUnit.vector (BitVec.ofNat 32 ↑p) 64#32) 1#32)
        (IntOp.divsi ArithUnit.vector (BitVec.ofNat 32 ↑p) 64#32) : BitVec 32) = BitVec.ofNat 32 (p.val / 64) := by
  revert p; decide +kernel

/-- The blocks' weights spread over the positions, then cut at the query. -/
theorem spread (p : Fin 16 → EReal) (t pos : ℕ) :
    (∑ x : Fin 16, ind (rank p x < 8) * ind (x.val = pos / 64)) * ind (pos ≤ t) = ind (seen p t pos) := by
  by_cases h : pos / 64 < 16
  · rw [Finset.sum_eq_single ⟨pos / 64, h⟩]
    · have : seen p t pos ↔ (rank p ⟨pos / 64, h⟩ < 8 ∧ pos ≤ t) := by
        unfold seen
        refine and_congr_left fun _ => ⟨?_, fun hr => ⟨_, rfl, hr⟩⟩
        rintro ⟨m, hm, hr⟩
        obtain rfl : m = ⟨pos / 64, h⟩ := Fin.ext hm
        exact hr
      simp only [ind, this]
      by_cases h1 : rank p ⟨pos / 64, h⟩ < 8 <;> by_cases h2 : pos ≤ t <;> simp [h1, h2]
    · intro b _ hb
      have : b.val ≠ pos / 64 := fun e => hb (Fin.ext e)
      simp [ind, this]
    · simp
  · rw [Finset.sum_eq_zero]
    · have : ¬ seen p t pos := by
        rintro ⟨⟨m, hm, -⟩, -⟩
        have := m.isLt
        omega
      simp [ind, this]
    · intro b _
      have : b.val ≠ pos / 64 := by have := b.isLt; omega
      simp [ind, this]

/-- The mask of the selected branch in the first region. -/
theorem seen1_apply (v4 : IVec S128x1 32) (t : Fin 128 → ℕ) (ht : ∀ r, t r < 1024) (hv4 : ∀ r : Fin 128, v4 (ix2 r 0) = BitVec.ofNat 32 (t r))
    (s : FVec Ideal S128x16 .f32) (sc : Fin 128 → Fin 16 → EReal) (hs : ∀ r m, s (ix2 r m) = ind (rank (sc r) m < 8))
    (r : Fin 128) (p : Fin 512) :
    k1_pay35 (F := Ideal) v4 s (iota .tc S16x512 32 [0] iota_S16x512_d0_w32) (iota .tc S16x512 32 [1] iota_S16x512_d1_w32) 64#32 k1_pay33 k1_pay34 (ix2 r p)
      = ind (seen (sc r) (t r) p.val) := by
  have hp := p.isLt
  have htr := ht r
  rw [← spread]
  pointwise [k1_pay35, k1_pay33, k1_pay34]
  have hb := block_word ⟨p.val, by omega⟩
  simp only at hb
  rw [hb, hv4]
  refine congrArg₂ (· * ·) (Finset.sum_congr rfl fun x _ => ?_) ?_
  · have hx := x.isLt
    rw [hs, WordCmp.cmpi_eq_ofNat (by omega) (by omega), sitofp_bit]
  · rw [WordCmp.cmpi_sle_ofNat (by omega) (by omega), sitofp_bit]

/-- The mask of the selected branch in the second region. -/
theorem seen2_apply (v4 : IVec S128x1 32) (t : Fin 128 → ℕ) (ht : ∀ r, t r < 1024) (hv4 : ∀ r : Fin 128, v4 (ix2 r 0) = BitVec.ofNat 32 (t r))
    (s : FVec Ideal S128x16 .f32) (sc : Fin 128 → Fin 16 → EReal) (hs : ∀ r m, s (ix2 r m) = ind (rank (sc r) m < 8))
    (r : Fin 128) (p : Fin 1024) :
    k2_pay35 (F := Ideal) v4 s (iota .tc S16x1024 32 [0] iota_S16x1024_d0_w32) (iota .tc S16x1024 32 [1] iota_S16x1024_d1_w32) 64#32 k2_pay33 k2_pay34 (ix2 r p)
      = ind (seen (sc r) (t r) p.val) := by
  have hp := p.isLt
  have htr := ht r
  rw [← spread]
  pointwise [k2_pay35, k2_pay33, k2_pay34]
  rw [block_word p, hv4]
  refine congrArg₂ (· * ·) (Finset.sum_congr rfl fun x _ => ?_) ?_
  · have hx := x.isLt
    rw [hs, WordCmp.cmpi_eq_ofNat (by omega) (by omega), sitofp_bit]
  · rw [WordCmp.cmpi_sle_ofNat (by omega) (by omega), sitofp_bit]

end Cert.KernelIdeal.RefValue
end
-- ==== Proof.Shared.lean ====
/- The parts of a block's program that the two attention regions share. -/
module

public import proofs.«01_k».proof.Proof.Gen.KernelIdeal.Frame
public import proofs.«01_k».proof.Proof.Head
public import Idealize.ShloMosaic.Lib.Pipeline.ValueKit

@[expose] public section
noncomputable section
open Idealize.ShloMosaic Idealize.ShloMosaic.TcCoe Idealize.SL.Sem
namespace Cert.KernelIdeal.RefValue
open Cert.KernelIdeal Cert.KernelIdeal.Gen Cert.Nsa

/-- The summed compressed probabilities of a block's four heads. -/
def sumPay (va : IVec S128x64 1) (hv : FVec Ideal S128x1 .f32) (q0 q1 q2 q3 : FVec Ideal S128x128 .f32)
    (ck : Vec Ideal S64x128 .f32) : FVec Ideal S128x64 .f32 :=
  addf (addf (addf (k1_pay13 q0 va hv ck) (k1_pay13 q1 va hv ck)) (k1_pay13 q2 va hv ck)) (k1_pay13 q3 va hv ck)

/-- The zero-one weights of a block's selected blocks. -/
def pickPay (s : FVec Ideal S128x64 .f32) : FVec Ideal S128x16 .f32 :=
  selPay (k1_pay22 s (iota .tc S64x16 32 [0] iota_S64x16_d0_w32) k1_pay20 k1_pay21 1#32)
    (k1_pay23 s (iota .tc S64x16 32 [0] iota_S64x16_d0_w32) k1_pay20 k1_pay21 1#32)
    (k1_pay24 s (iota .tc S64x16 32 [0] iota_S64x16_d0_w32) k1_pay20 k1_pay21 1#32)

/-- The queries of one head of a block. -/
def headQ (x0 : Vec Ideal S1x4x128x128 .f32) (g : Fin 4) : FVec Ideal S128x128 .f32 := fun j => x0 (ix4 0 g (j 0) (j 1))

/-- The four loads of the queries are the four heads. -/
theorem ldQ0 (x0 : Vec Ideal S1x4x128x128 .f32) : k1_pay3 (View.ld x0 (Rect.unit ![0, 0, 0, 0] ![1, 1, 128, 128] inb_S1x4x128x128_S1x1x128x128_0_0_0_0)) = headQ x0 0 := by
  funext j
  pointwise [k1_pay3, headQ]
theorem ldQ1 (x0 : Vec Ideal S1x4x128x128 .f32) : k1_pay4 (View.ld x0 (Rect.unit ![0, 1, 0, 0] ![1, 1, 128, 128] inb_S1x4x128x128_S1x1x128x128_0_1_0_0)) = headQ x0 1 := by
  funext j
  pointwise [k1_pay4, headQ]
theorem ldQ2 (x0 : Vec Ideal S1x4x128x128 .f32) : k1_pay5 (View.ld x0 (Rect.unit ![0, 2, 0, 0] ![1, 1, 128, 128] inb_S1x4x128x128_S1x1x128x128_0_2_0_0)) = headQ x0 2 := by
  funext j
  pointwise [k1_pay5, headQ]
theorem ldQ3 (x0 : Vec Ideal S1x4x128x128 .f32) : k1_pay6 (View.ld x0 (Rect.unit ![0, 3, 0, 0] ![1, 1, 128, 128] inb_S1x4x128x128_S1x1x128x128_0_3_0_0)) = headQ x0 3 := by
  funext j
  pointwise [k1_pay6, headQ]

section Fold
variable (va : IVec S128x64 1) (hv : FVec Ideal S128x1 .f32) (ck : Vec Ideal S64x128 .f32) (q0 q1 q2 q3 q : FVec Ideal S128x128 .f32)

/-- The payloads that compute one head's compressed probabilities are one function. -/
theorem fold14 : k1_pay14 q va hv ck = k1_pay13 q va hv ck := rfl
theorem fold17 : k1_pay17 va hv (k1_pay15 q ck) k1_pay16 = k1_pay13 q va hv ck := rfl
theorem fold18 : k1_pay18 q va hv (k1_pay11 ck) = k1_pay13 q va hv ck := rfl
theorem fold19 : k1_pay19 q3 va hv (k1_pay11 ck) (k1_pay13 q0 va hv ck) (k1_pay13 q1 va hv ck) (k1_pay15 q2 ck) k1_pay16
    = sumPay va hv q0 q1 q2 q3 ck := rfl
/-- The ranking payloads, folded. -/
theorem foldPick (s : FVec Ideal S128x64 .f32) :
    k1_pay32 (k1_pay22 s (iota .tc S64x16 32 [0] iota_S64x16_d0_w32) k1_pay20 k1_pay21 1#32) (iota .tc S128x16 32 [1] iota_S128x16_d1_w32)
      (k1_pay29 (k1_pay22 s (iota .tc S64x16 32 [0] iota_S64x16_d0_w32) k1_pay20 k1_pay21 1#32) (iota .tc S128x16 32 [1] iota_S128x16_d1_w32)
        (k1_pay26 (k1_pay22 s (iota .tc S64x16 32 [0] iota_S64x16_d0_w32) k1_pay20 k1_pay21 1#32) (iota .tc S128x16 32 [1] iota_S128x16_d1_w32)
          (k1_pay23 s (iota .tc S64x16 32 [0] iota_S64x16_d0_w32) k1_pay20 k1_pay21 1#32)
          (k1_pay24 s (iota .tc S64x16 32 [0] iota_S64x16_d0_w32) k1_pay20 k1_pay21 1#32))
        (k1_pay27 (k1_pay22 s (iota .tc S64x16 32 [0] iota_S64x16_d0_w32) k1_pay20 k1_pay21 1#32)) k1_pay28)
      (k1_pay30 (k1_pay22 s (iota .tc S64x16 32 [0] iota_S64x16_d0_w32) k1_pay20 k1_pay21 1#32))
      (k1_pay31 (k1_pay22 s (iota .tc S64x16 32 [0] iota_S64x16_d0_w32) k1_pay20 k1_pay21 1#32)) = pickPay s := rfl
end Fold

/-- Four stores along the heads' axis, read back: head `g` holds the `g`-th payload. -/
theorem canon_heads (f0 f1 f2 f3 : FVec Ideal S1x128x1x1x128 .f32) (f : Fin 4 → FVec Ideal S1x128x1x1x128 .f32)
    (h0 : f0 = f 0) (h1 : f1 = f 1) (h2 : f2 = f 2) (h3 : f3 = f 3) (y : S1x128x1x4x128.Idx) :
    View.canon (Val := Elt Ideal) (s := S1x128x1x4x128) (e := .f32)
      [⟨Rect.unit ![0, 0, 0, 3, 0] ![1, 128, 1, 1, 128] inb_S1x128x1x4x128_S1x128x1x1x128_0_0_0_3_0, f3⟩,
       ⟨Rect.unit ![0, 0, 0, 2, 0] ![1, 128, 1, 1, 128] inb_S1x128x1x4x128_S1x128x1x1x128_0_0_0_2_0, f2⟩,
       ⟨Rect.unit ![0, 0, 0, 1, 0] ![1, 128, 1, 1, 128] inb_S1x128x1x4x128_S1x128x1x1x128_0_0_0_1_0, f1⟩,
       ⟨Rect.unit ![0, 0, 0, 0, 0] ![1, 128, 1, 1, 128] inb_S1x128x1x4x128_S1x128x1x1x128_0_0_0_0_0, f0⟩] y
      = f (y 3) (ix5 0 (y 1) 0 0 (y 4)) := by
  subst h0 h1 h2 h3
  canon_tiles x h
  all_goals
    refine congr (congrArg f (Fin.ext ?_)) (funext fun a => Fin.ext ?_)
    · simpa using by omega
    · fin_cases a <;> simp <;> omega

/-- The first position of a block, as a word, in each region. -/
theorem base1 (i : grid1.Coords) (j : Fin 8) (hj : (i 1).val = j.val) :
    Scalar.muli (Scalar.addi (BitVec.ofNat 32 (i 1).val) 0#32) 128#32 = BitVec.ofNat 32 (128 * j.val) := by
  rw [hj]; clear hj; revert j; decide +kernel
theorem base2 (i : grid2.Coords) (j : Fin 8) (hj : (i 1).val + 4 = j.val) :
    Scalar.muli (Scalar.addi (BitVec.ofNat 32 (i 1).val) 4#32) 128#32 = BitVec.ofNat 32 (128 * j.val) := by
  have h : ∀ a : Fin 4, Scalar.muli (Scalar.addi (BitVec.ofNat 32 a.val) 4#32) 128#32 = BitVec.ofNat 32 (128 * (a.val + 4)) := by decide +kernel
  rw [← hj]
  exact h ⟨(i 1).val, by omega⟩

/-- A block's positions, as words, in each region. -/
theorem pos1 (i : grid1.Coords) (j : Fin 8) (hj : (i 1).val = j.val) (r : Fin 128) : k1_pay2 i (ix2 r 0) = BitVec.ofNat 32 (128 * j.val + r.val) := by
  pointwise [k1_pay2]
  rw [base1 i j hj, IntOp.addi, BitVec.ofNat_add]
theorem pos2 (i : grid2.Coords) (j : Fin 8) (hj : (i 1).val + 4 = j.val) (r : Fin 128) : k2_pay2 i (ix2 r 0) = BitVec.ofNat 32 (128 * j.val + r.val) := by
  pointwise [k2_pay2]
  rw [base2 i j hj, IntOp.addi, BitVec.ofNat_add]

/-- The last position of a compressed block, as a word. -/
theorem last_word (c : Fin 64) : IntOp.subi (IntOp.addi (IntOp.muli (BitVec.ofNat 32 c.val) 16#32) 32#32) 1#32 = BitVec.ofNat 32 (16 * c.val + 31) := by
  revert c; decide +kernel

/-- The mask of the compressed blocks, in each region. -/
theorem va1_apply (t : ℕ) (ht : t < 1024) (i : grid1.Coords) (r : Fin 128) (c : Fin 64) (hp : k1_pay2 i (ix2 r 0) = BitVec.ofNat 32 t) :
    k1_pay9 i (ix2 r c) = BitVec.ofBool (decide (16 * c.val + 31 ≤ t)) := by
  have hc := c.isLt
  pointwise [k1_pay9]
  rw [hp, last_word, WordCmp.cmpi_sle_ofNat (by omega) (by omega)]
theorem va2_apply (t : ℕ) (ht : t < 1024) (i : grid2.Coords) (r : Fin 128) (c : Fin 64) (hp : k2_pay2 i (ix2 r 0) = BitVec.ofNat 32 t) :
    k2_pay9 i (ix2 r c) = BitVec.ofBool (decide (16 * c.val + 31 ≤ t)) := by
  have hc := c.isLt
  pointwise [k2_pay9]
  rw [hp, last_word, WordCmp.cmpi_sle_ofNat (by omega) (by omega)]

/-- The weight that drops the positions before the first compressed block is complete, in each region. -/
theorem hv1_apply (t : ℕ) (ht : t < 1024) (i : grid1.Coords) (r : Fin 128) (hp : k1_pay2 i (ix2 r 0) = BitVec.ofNat 32 t) :
    k1_pay10 (F := Ideal) i (ix2 r 0) = if 31 ≤ t then 1 else 0 := by
  pointwise [k1_pay10]
  rw [hp, WordCmp.cmpi_sge_ofNat (by omega) (by omega), sitofp_bit, ind]
theorem hv2_apply (t : ℕ) (ht : t < 1024) (i : grid2.Coords) (r : Fin 128) (hp : k2_pay2 i (ix2 r 0) = BitVec.ofNat 32 t) :
    k2_pay10 (F := Ideal) i (ix2 r 0) = if 31 ≤ t then 1 else 0 := by
  pointwise [k2_pay10]
  rw [hp, WordCmp.cmpi_sge_ofNat (by omega) (by omega), sitofp_bit, ind]

/-- A block's summed probabilities. -/
theorem sum_apply (va : IVec S128x64 1) (hv : FVec Ideal S128x1 .f32) (x0 : Vec Ideal S1x4x128x128 .f32) (ck : Vec Ideal S64x128 .f32) (t : Fin 128 → ℕ)
    (hva : ∀ r c, va (ix2 r c) = BitVec.ofBool (decide (16 * c.val + 31 ≤ t r)))
    (hhv : ∀ r, hv (ix2 r 0) = if 31 ≤ t r then 1 else 0) (r : Fin 128) (c : Fin 64) :
    sumPay va hv (headQ x0 0) (headQ x0 1) (headQ x0 2) (headQ x0 3) ck (ix2 r c)
      = cprob (t r) (fun d => x0 (ix4 0 0 r d)) (fun c d => ck (ix2 c d)) c + cprob (t r) (fun d => x0 (ix4 0 1 r d)) (fun c d => ck (ix2 c d)) c
        + cprob (t r) (fun d => x0 (ix4 0 2 r d)) (fun c d => ck (ix2 c d)) c + cprob (t r) (fun d => x0 (ix4 0 3 r d)) (fun c d => ck (ix2 c d)) c := by
  pointwise [sumPay]
  rw [cp_apply _ va hv ck t hva hhv, cp_apply _ va hv ck t hva hhv, cp_apply _ va hv ck t hva hhv, cp_apply _ va hv ck t hva hhv]
  rfl

/-- A block's selected blocks: the eight of least rank. -/
theorem pick_apply (s : FVec Ideal S128x64 .f32) (r : Fin 128) (m : Fin 16) :
    pickPay s (ix2 r m) = ind (rank (score fun c => s (ix2 r c)) m < 8) := by
  unfold pickPay
  rw [sel_apply s _ rfl]
  exact congrArg (fun p : Fin 16 → EReal => ind (rank p m < 8)) (funext (score_apply s r))

end Cert.KernelIdeal.RefValue
end
-- ==== Proof.Tile1.lean ====
/- What a block of the first attention region (queries 0 to 511 of each sequence) leaves in the output's staging buffer. -/
module

public import proofs.«01_k».proof.Proof.Shared

@[expose] public section
noncomputable section
open Idealize.ShloMosaic Idealize.ShloMosaic.TcCoe Idealize.SL.Sem
namespace Cert.KernelIdeal.RefValue
open Cert.KernelIdeal Cert.KernelIdeal.Gen Cert.Nsa

/-- One head of a block of the first region, composed from the payloads. -/
def headPay1 (i : grid1.Coords) (s : FVec Ideal S128x64 .f32) (q : FVec Ideal S128x128 .f32)
    (x1 x2 : Vec Ideal S1x512x128 .f32) (x3 x4 : Vec Ideal S64x128 .f32) (x5 : Vec Ideal S128x8 .f32)
    (x6 : Vec Ideal S1x8 .f32) : FVec Ideal S1x128x1x1x128 .f32 :=
  k1_pay44 (k1_pay43 q (k1_pay7 x1) (k1_pay8 x2) (k1_pay12 x4) (k1_pay13 q (k1_pay9 i) (k1_pay10 i) x3)
    (k1_pay35 (k1_pay2 i) (pickPay s) (iota .tc S16x512 32 [0] iota_S16x512_d0_w32) (iota .tc S16x512 32 [1] iota_S16x512_d1_w32) 64#32 k1_pay33 k1_pay34)
    (k1_pay36 (View.ld x1 (Rect.unit (k1_off1 i) ![1, 384, 128] (k1_off1_inb i)))) (k1_pay37 (View.ld x2 (Rect.unit (k1_off1 i) ![1, 384, 128] (k1_off1_inb i))))
    (k1_pay39 (Scalar.muli (Scalar.addi (BitVec.ofNat 32 (i 1).val) 0#32) 128#32) (k1_pay2 i))
    (k1_pay40 (Scalar.muli (Scalar.addi (BitVec.ofNat 32 (i 1).val) 0#32) 128#32) (k1_pay2 i)) k1_pay41 x5 x6)

section Pieces
variable (q : FVec Ideal S128x128 .f32) (a b : FVec Ideal S512x128 .f32) (cv : FVec Ideal S64x128 .f32) (cp : FVec Ideal S128x64 .f32)
  (z : FVec Ideal S128x512 .f32) (kw vw : FVec Ideal S384x128 .f32) (e : IVec S128x384 1) (f g : IVec S128x384 32) (wg : Vec Ideal S128x8 .f32) (bg : Vec Ideal S1x8 .f32)

/-- The payloads that compute a head's result are one function. -/
theorem fold48 : k1_pay48 (k1_pay46 q a b z kw vw (k1_pay42 e f g) wg bg) (k1_pay47 q cv cp wg bg) = k1_pay44 (k1_pay43 q a b cv cp z kw vw e f g wg bg) := rfl
theorem fold52 : k1_pay52 (k1_pay49 cv cp) (k1_pay50 q wg bg) (k1_pay51 q a b z kw vw (k1_pay42 e f g) wg bg) = k1_pay44 (k1_pay43 q a b cv cp z kw vw e f g wg bg) := rfl
theorem fold1 : k1_pay1 (k1_pay53 q kw vw (k1_pay42 e f g)) (k1_pay54 cv cp) (k1_pay55 q wg bg) (k1_pay56 q a b z wg bg) (k1_pay57 q wg bg) = k1_pay44 (k1_pay43 q a b cv cp z kw vw e f g wg bg) := rfl
end Pieces

theorem tile1_heads (c : Dev nD) (i : grid1.Coords) (arg2 : Memref sig .tc .vmem S1x4x128x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S128x8 .f32) (harg7 : arg7.IsWhole) (arg8 : Memref sig .tc .vmem S1x8 .f32) (harg8 : arg8.IsWhole) (arg9 : Memref sig .tc .vmem S1x128x1x4x128 .f32) (harg9 : arg9.IsWhole)
    (x0 : Vec Ideal S1x4x128x128 .f32) (x1 : Vec Ideal S1x512x128 .f32) (x2 : Vec Ideal S1x512x128 .f32) (x3 : Vec Ideal S64x128 .f32) (x4 : Vec Ideal S64x128 .f32) (x5 : Vec Ideal S128x8 .f32) (x6 : Vec Ideal S1x8 .f32) (y : S1x128x1x4x128.Idx) : out1_A_7 (F := Ideal) c i arg2 harg2 arg3 harg3 arg4 harg4 arg5 harg5 arg6 harg6 arg7 harg7 arg8 harg8 arg9 harg9 x0 x1 x2 x3 x4 x5 x6 y = headPay1 i (sumPay (k1_pay9 i) (k1_pay10 i) (headQ x0 0) (headQ x0 1) (headQ x0 2) (headQ x0 3) x3) (headQ x0 (y 3)) x1 x2 x3 x4 x5 x6 (ix5 0 (y 1) 0 0 (y 4)) := by
  frame_out
  simp only [ldQ0, ldQ1, ldQ2, ldQ3, fold14, fold19, fold17, fold18]
  rw [foldPick]
  rw [fold48, fold52, fold1]
  exact canon_heads _ _ _ _ (fun g => headPay1 i (sumPay (k1_pay9 i) (k1_pay10 i) (headQ x0 0) (headQ x0 1) (headQ x0 2) (headQ x0 3) x3) (headQ x0 g) x1 x2 x3 x4 x5 x6) rfl rfl rfl rfl y
/-- The offset of the window's load. -/
theorem off1 (i : grid1.Coords) (j : Fin 8) (hj : (i 1).val = j.val) : k1_off1 i = ![0, 128 * j.val - 256, 0] := by
  have h : ∀ j : Fin 8, ((Scalar.maxsi (Scalar.subi (Scalar.muli (Scalar.addi (BitVec.ofNat 32 j.val) 0#32) 128#32) 256#32) 0#32 : BitVec 32)).toNat = 128 * j.val - 256 := by decide +kernel
  unfold k1_off1
  rw [hj]
  funext a
  fin_cases a
  · rfl
  · exact h j
  · rfl

/-- The window's rows. -/
theorem win1_apply (i : grid1.Coords) (j : Fin 8) (hj : (i 1).val = j.val) (hj4 : j.val < 4) (x : Vec Ideal S1x512x128 .f32) (p : Fin 384) (d : Fin 128) :
    k1_pay36 (View.ld x (Rect.unit (k1_off1 i) ![1, 384, 128] (k1_off1_inb i))) (ix2 p d) = x (ix3 0 ⟨128 * j.val - 256 + p.val, by omega⟩ d) := by
  have e := off1 i j hj
  pointwise [k1_pay36]
  congr 2 <;> exact Fin.ext (by simp [e])

/-- One head of a block at an index. -/
theorem head1_row (i : grid1.Coords) (j : Fin 8) (hj : (i 1).val = j.val) (hj4 : j.val < 4)
    (x0 : Vec Ideal S1x4x128x128 .f32) (x1 : Vec Ideal S1x512x128 .f32) (x2 : Vec Ideal S1x512x128 .f32) (x3 : Vec Ideal S64x128 .f32) (x4 : Vec Ideal S64x128 .f32) (x5 : Vec Ideal S128x8 .f32) (x6 : Vec Ideal S1x8 .f32)
    (g : Fin 4) (r d : Fin 128) :
    headPay1 i (sumPay (k1_pay9 i) (k1_pay10 i) (headQ x0 0) (headQ x0 1) (headQ x0 2) (headQ x0 3) x3) (headQ x0 g) x1 x2 x3 x4 x5 x6 (ix5 0 r 0 0 d)
      = rowK (128 * j.val + r.val) (128 * j.val - 256) (fun g d => x0 (ix4 0 g r d)) (fun p d => x1 (ix3 0 p d)) (fun p d => x2 (ix3 0 p d))
          (fun p d => x1 (ix3 0 ⟨128 * j.val - 256 + p.val, by omega⟩ d)) (fun p d => x2 (ix3 0 ⟨128 * j.val - 256 + p.val, by omega⟩ d))
          (fun c d => x3 (ix2 c d)) (fun c d => x4 (ix2 c d)) (fun d j => x5 (ix2 d j)) (fun j => x6 (ix2 0 j)) g d := by
  have hlt : ∀ r : Fin 128, 128 * j.val + r.val < 1024 := fun r => by omega
  have hva := fun r c => va1_apply (128 * j.val + r.val) (hlt r) i r c (pos1 i j hj r)
  have hhv := fun r => hv1_apply (128 * j.val + r.val) (hlt r) i r (pos1 i j hj r)
  have hcp := fun q => cp_apply q (k1_pay9 i) (k1_pay10 i) x3 (fun r => 128 * j.val + r.val) hva hhv r
  have hs := fun r c => sum_apply (k1_pay9 i) (k1_pay10 i) x0 x3 (fun r => 128 * j.val + r.val) hva hhv r c
  have hp := fun r m => (pick_apply (sumPay (k1_pay9 i) (k1_pay10 i) (headQ x0 0) (headQ x0 1) (headQ x0 2) (headQ x0 3) x3) r m)
  have hz := seen1_apply (k1_pay2 i) (fun r => 128 * j.val + r.val) hlt (pos1 i j hj) (pickPay (sumPay (k1_pay9 i) (k1_pay10 i) (headQ x0 0) (headQ x0 1) (headQ x0 2) (headQ x0 3) x3))
    (fun r => score fun c => sumPay (k1_pay9 i) (k1_pay10 i) (headQ x0 0) (headQ x0 1) (headQ x0 2) (headQ x0 3) x3 (ix2 r c)) hp r
  have hn := near_apply j (k1_pay2 i) (pos1 i j hj) r
  have hk : ∀ (x : Vec Ideal S1x512x128 .f32) p d, k1_pay7 x (ix2 p d) = x (ix3 0 p d) := fun x p d => by pointwise [k1_pay7]
  have hk' : ∀ (x : Vec Ideal S64x128 .f32) p d, k1_pay12 x (ix2 p d) = x (ix2 p d) := fun x p d => by pointwise [k1_pay12]
  have e44 : ∀ y, k1_pay44 (F := Ideal) y (ix5 0 r 0 0 d) = y (ix2 r d) := fun y => by pointwise [k1_pay44]
  have e8 : k1_pay8 x2 = k1_pay7 x2 := rfl
  have e37 : ∀ y, k1_pay37 (F := Ideal) y = k1_pay36 y := fun _ => rfl
  simp only [hs] at hz
  rw [headPay1, e44, head1_apply, e8, e37, base1 i j hj]
  simp only [hz, hn, hk, hk', hcp, win1_apply i j hj hj4]
  rfl

/-- What a block leaves in the output's staging buffer. -/
theorem tile1  (c : Dev nD) (i : grid1.Coords) (arg2 : Memref sig .tc .vmem S1x4x128x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S128x8 .f32) (harg7 : arg7.IsWhole) (arg8 : Memref sig .tc .vmem S1x8 .f32) (harg8 : arg8.IsWhole) (arg9 : Memref sig .tc .vmem S1x128x1x4x128 .f32) (harg9 : arg9.IsWhole)
    (x0 : Vec Ideal S1x4x128x128 .f32) (x1 : Vec Ideal S1x512x128 .f32) (x2 : Vec Ideal S1x512x128 .f32) (x3 : Vec Ideal S64x128 .f32) (x4 : Vec Ideal S64x128 .f32) (x5 : Vec Ideal S128x8 .f32) (x6 : Vec Ideal S1x8 .f32) (y : S1x128x1x4x128.Idx) (j : Fin 8) (hj : (i 1).val = j.val) (hj4 : j.val < 4) :
    out1_A_7 (F := Ideal) c i arg2 harg2 arg3 harg3 arg4 harg4 arg5 harg5 arg6 harg6 arg7 harg7 arg8 harg8 arg9 harg9 x0 x1 x2 x3 x4 x5 x6 y
      = rowK (128 * j.val + (y 1).val) (128 * j.val - 256) (fun g d => x0 (ix4 0 g (y 1) d)) (fun p d => x1 (ix3 0 p d)) (fun p d => x2 (ix3 0 p d))
          (fun p d => x1 (ix3 0 ⟨128 * j.val - 256 + p.val, by omega⟩ d)) (fun p d => x2 (ix3 0 ⟨128 * j.val - 256 + p.val, by omega⟩ d))
          (fun c d => x3 (ix2 c d)) (fun c d => x4 (ix2 c d)) (fun d j => x5 (ix2 d j)) (fun j => x6 (ix2 0 j)) (y 3) (y 4) :=
  (tile1_heads ..).trans (head1_row i j hj hj4 x0 x1 x2 x3 x4 x5 x6 (y 3) (y 1) (y 4))

end Cert.KernelIdeal.RefValue
end
-- ==== Proof.Tile2.lean ====
/- What a block of the second attention region (queries 512 to 1023 of each sequence) leaves in the output's staging buffer. -/
module

public import proofs.«01_k».proof.Proof.Shared

@[expose] public section
noncomputable section
open Idealize.ShloMosaic Idealize.ShloMosaic.TcCoe Idealize.SL.Sem
namespace Cert.KernelIdeal.RefValue
open Cert.KernelIdeal Cert.KernelIdeal.Gen Cert.Nsa

/-- One head of a block of the second region, composed from the payloads. -/
def headPay2 (i : grid2.Coords) (s : FVec Ideal S128x64 .f32) (q : FVec Ideal S128x128 .f32)
    (x1 x2 : Vec Ideal S1x1024x128 .f32) (x3 x4 : Vec Ideal S64x128 .f32) (x5 : Vec Ideal S128x8 .f32)
    (x6 : Vec Ideal S1x8 .f32) : FVec Ideal S1x128x1x1x128 .f32 :=
  k2_pay44 (k2_pay43 q (k2_pay7 x1) (k2_pay8 x2) (k2_pay12 x4) (k1_pay13 q (k2_pay9 i) (k2_pay10 i) x3)
    (k2_pay35 (k2_pay2 i) (pickPay s) (iota .tc S16x1024 32 [0] iota_S16x1024_d0_w32) (iota .tc S16x1024 32 [1] iota_S16x1024_d1_w32) 64#32 k2_pay33 k2_pay34)
    (k2_pay36 (View.ld x1 (Rect.unit (k2_off1 i) ![1, 384, 128] (k2_off1_inb i)))) (k2_pay37 (View.ld x2 (Rect.unit (k2_off1 i) ![1, 384, 128] (k2_off1_inb i))))
    (k1_pay39 (Scalar.muli (Scalar.addi (BitVec.ofNat 32 (i 1).val) 4#32) 128#32) (k2_pay2 i))
    (k1_pay40 (Scalar.muli (Scalar.addi (BitVec.ofNat 32 (i 1).val) 4#32) 128#32) (k2_pay2 i)) k1_pay41 x5 x6)

section Fold
variable (va : IVec S128x64 1) (hv : FVec Ideal S128x1 .f32) (ck : Vec Ideal S64x128 .f32) (q0 q1 q2 q3 q : FVec Ideal S128x128 .f32)
  (x : Vec Ideal S1x1x128x128 .f32)

/-- The loads of the queries are the first region's. -/
theorem load3 : k2_pay3 x = k1_pay3 x := rfl
theorem load4 : k2_pay4 x = k1_pay4 x := rfl
theorem load5 : k2_pay5 x = k1_pay5 x := rfl
theorem load6 : k2_pay6 x = k1_pay6 x := rfl
/-- The compressed probabilities are the first region's function. -/
theorem probs13 : k2_pay13 q va hv ck = k1_pay13 q va hv ck := rfl
theorem probs14 : k2_pay14 q va hv ck = k1_pay13 q va hv ck := rfl
theorem probs17 : k2_pay17 va hv (k2_pay15 q ck) k2_pay16 = k1_pay13 q va hv ck := rfl
theorem probs18 : k2_pay18 q va hv (k2_pay11 ck) = k1_pay13 q va hv ck := rfl
theorem probs19 : k2_pay19 q3 va hv (k2_pay11 ck) (k1_pay13 q0 va hv ck) (k1_pay13 q1 va hv ck) (k2_pay15 q2 ck) k2_pay16
    = sumPay va hv q0 q1 q2 q3 ck := rfl
/-- The ranking payloads, folded. -/
theorem foldPick2 (s : FVec Ideal S128x64 .f32) :
    k2_pay32 (k2_pay22 s (iota .tc S64x16 32 [0] iota_S64x16_d0_w32) k2_pay20 k2_pay21 1#32) (iota .tc S128x16 32 [1] iota_S128x16_d1_w32)
      (k2_pay29 (k2_pay22 s (iota .tc S64x16 32 [0] iota_S64x16_d0_w32) k2_pay20 k2_pay21 1#32) (iota .tc S128x16 32 [1] iota_S128x16_d1_w32)
        (k2_pay26 (k2_pay22 s (iota .tc S64x16 32 [0] iota_S64x16_d0_w32) k2_pay20 k2_pay21 1#32) (iota .tc S128x16 32 [1] iota_S128x16_d1_w32)
          (k2_pay23 s (iota .tc S64x16 32 [0] iota_S64x16_d0_w32) k2_pay20 k2_pay21 1#32)
          (k2_pay24 s (iota .tc S64x16 32 [0] iota_S64x16_d0_w32) k2_pay20 k2_pay21 1#32))
        (k2_pay27 (k2_pay22 s (iota .tc S64x16 32 [0] iota_S64x16_d0_w32) k2_pay20 k2_pay21 1#32)) k2_pay28)
      (k2_pay30 (k2_pay22 s (iota .tc S64x16 32 [0] iota_S64x16_d0_w32) k2_pay20 k2_pay21 1#32))
      (k2_pay31 (k2_pay22 s (iota .tc S64x16 32 [0] iota_S64x16_d0_w32) k2_pay20 k2_pay21 1#32)) = pickPay s := rfl
end Fold

section Pieces
variable (q : FVec Ideal S128x128 .f32) (a b : FVec Ideal S1024x128 .f32) (cv : FVec Ideal S64x128 .f32) (cp : FVec Ideal S128x64 .f32)
  (z : FVec Ideal S128x1024 .f32) (kw vw : FVec Ideal S384x128 .f32) (e : IVec S128x384 1) (f g : IVec S128x384 32) (wg : Vec Ideal S128x8 .f32) (bg : Vec Ideal S1x8 .f32)

/-- The payloads that compute a head's result are one function. -/
theorem piece48 : k2_pay48 (k2_pay46 q a b z kw vw (k2_pay42 e f g) wg bg) (k2_pay47 q cv cp wg bg) = k2_pay44 (k2_pay43 q a b cv cp z kw vw e f g wg bg) := rfl
theorem piece52 : k2_pay52 (k2_pay49 cv cp) (k2_pay50 q wg bg) (k2_pay51 q a b z kw vw (k2_pay42 e f g) wg bg) = k2_pay44 (k2_pay43 q a b cv cp z kw vw e f g wg bg) := rfl
theorem piece1 : k2_pay1 (k2_pay53 q kw vw (k2_pay42 e f g)) (k2_pay54 cv cp) (k2_pay55 q wg bg) (k2_pay56 q a b z wg bg) (k2_pay57 q wg bg) = k2_pay44 (k2_pay43 q a b cv cp z kw vw e f g wg bg) := rfl
end Pieces

theorem tile2_heads (c : Dev nD) (i : grid2.Coords) (arg2 : Memref sig .tc .vmem S1x4x128x128 .f32) (harg2 : arg2.IsWhole) (arg3 : Memref sig .tc .vmem S1x1024x128 .f32) (harg3 : arg3.IsWhole) (arg4 : Memref sig .tc .vmem S1x1024x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S128x8 .f32) (harg7 : arg7.IsWhole) (arg8 : Memref sig .tc .vmem S1x8 .f32) (harg8 : arg8.IsWhole) (arg9 : Memref sig .tc .vmem S1x128x1x4x128 .f32) (harg9 : arg9.IsWhole)
    (x0 : Vec Ideal S1x4x128x128 .f32) (x1 : Vec Ideal S1x1024x128 .f32) (x2 : Vec Ideal S1x1024x128 .f32) (x3 : Vec Ideal S64x128 .f32) (x4 : Vec Ideal S64x128 .f32) (x5 : Vec Ideal S128x8 .f32) (x6 : Vec Ideal S1x8 .f32) (y : S1x128x1x4x128.Idx) : out2_A_7 (F := Ideal) c i arg2 harg2 arg3 harg3 arg4 harg4 arg5 harg5 arg6 harg6 arg7 harg7 arg8 harg8 arg9 harg9 x0 x1 x2 x3 x4 x5 x6 y = headPay2 i (sumPay (k2_pay9 i) (k2_pay10 i) (headQ x0 0) (headQ x0 1) (headQ x0 2) (headQ x0 3) x3) (headQ x0 (y 3)) x1 x2 x3 x4 x5 x6 (ix5 0 (y 1) 0 0 (y 4)) := by
  frame_out
  simp only [load3, load4, load5, load6, ldQ0, ldQ1, ldQ2, ldQ3, probs13, probs14, probs19, probs17, probs18]
  rw [foldPick2]
  rw [piece48, piece52, piece1]
  exact canon_heads _ _ _ _ (fun g => headPay2 i (sumPay (k2_pay9 i) (k2_pay10 i) (headQ x0 0) (headQ x0 1) (headQ x0 2) (headQ x0 3) x3) (headQ x0 g) x1 x2 x3 x4 x5 x6) rfl rfl rfl rfl y
/-- The offset of the window's load. -/
theorem off2 (i : grid2.Coords) (j : Fin 8) (hj : (i 1).val + 4 = j.val) : k2_off1 i = ![0, 128 * j.val - 256, 0] := by
  have h : ∀ a : Fin 4, ((Scalar.maxsi (Scalar.subi (Scalar.muli (Scalar.addi (BitVec.ofNat 32 a.val) 4#32) 128#32) 256#32) 0#32 : BitVec 32)).toNat = 128 * (a.val + 4) - 256 := by decide +kernel
  unfold k2_off1
  rw [← hj]
  funext a
  fin_cases a
  · rfl
  · exact h ⟨(i 1).val, by omega⟩
  · rfl

/-- The window's rows. -/
theorem win2_apply (i : grid2.Coords) (j : Fin 8) (hj : (i 1).val + 4 = j.val) (hj4 : 4 ≤ j.val) (x : Vec Ideal S1x1024x128 .f32) (p : Fin 384) (d : Fin 128) :
    k2_pay36 (View.ld x (Rect.unit (k2_off1 i) ![1, 384, 128] (k2_off1_inb i))) (ix2 p d) = x (ix3 0 ⟨128 * j.val - 256 + p.val, by omega⟩ d) := by
  have e := off2 i j hj
  pointwise [k2_pay36]
  congr 2 <;> exact Fin.ext (by simp [e])

/-- One head of a block at an index. -/
theorem head2_row (i : grid2.Coords) (j : Fin 8) (hj : (i 1).val + 4 = j.val) (hj4 : 4 ≤ j.val)
    (x0 : Vec Ideal S1x4x128x128 .f32) (x1 : Vec Ideal S1x1024x128 .f32) (x2 : Vec Ideal S1x1024x128 .f32) (x3 : Vec Ideal S64x128 .f32) (x4 : Vec Ideal S64x128 .f32) (x5 : Vec Ideal S128x8 .f32) (x6 : Vec Ideal S1x8 .f32)
    (g : Fin 4) (r d : Fin 128) :
    headPay2 i (sumPay (k2_pay9 i) (k2_pay10 i) (headQ x0 0) (headQ x0 1) (headQ x0 2) (headQ x0 3) x3) (headQ x0 g) x1 x2 x3 x4 x5 x6 (ix5 0 r 0 0 d)
      = rowK (128 * j.val + r.val) (128 * j.val - 256) (fun g d => x0 (ix4 0 g r d)) (fun p d => x1 (ix3 0 p d)) (fun p d => x2 (ix3 0 p d))
          (fun p d => x1 (ix3 0 ⟨128 * j.val - 256 + p.val, by omega⟩ d)) (fun p d => x2 (ix3 0 ⟨128 * j.val - 256 + p.val, by omega⟩ d))
          (fun c d => x3 (ix2 c d)) (fun c d => x4 (ix2 c d)) (fun d j => x5 (ix2 d j)) (fun j => x6 (ix2 0 j)) g d := by
  have hlt : ∀ r : Fin 128, 128 * j.val + r.val < 1024 := fun r => by omega
  have hva := fun r c => va2_apply (128 * j.val + r.val) (hlt r) i r c (pos2 i j hj r)
  have hhv := fun r => hv2_apply (128 * j.val + r.val) (hlt r) i r (pos2 i j hj r)
  have hcp := fun q => cp_apply q (k2_pay9 i) (k2_pay10 i) x3 (fun r => 128 * j.val + r.val) hva hhv r
  have hs := fun r c => sum_apply (k2_pay9 i) (k2_pay10 i) x0 x3 (fun r => 128 * j.val + r.val) hva hhv r c
  have hp := fun r m => (pick_apply (sumPay (k2_pay9 i) (k2_pay10 i) (headQ x0 0) (headQ x0 1) (headQ x0 2) (headQ x0 3) x3) r m)
  have hz := seen2_apply (k2_pay2 i) (fun r => 128 * j.val + r.val) hlt (pos2 i j hj) (pickPay (sumPay (k2_pay9 i) (k2_pay10 i) (headQ x0 0) (headQ x0 1) (headQ x0 2) (headQ x0 3) x3))
    (fun r => score fun c => sumPay (k2_pay9 i) (k2_pay10 i) (headQ x0 0) (headQ x0 1) (headQ x0 2) (headQ x0 3) x3 (ix2 r c)) hp r
  have hn := near_apply j (k2_pay2 i) (pos2 i j hj) r
  have hk : ∀ (x : Vec Ideal S1x1024x128 .f32) p d, k2_pay7 x (ix2 p d) = x (ix3 0 p d) := fun x p d => by pointwise [k2_pay7]
  have hk' : ∀ (x : Vec Ideal S64x128 .f32) p d, k2_pay12 x (ix2 p d) = x (ix2 p d) := fun x p d => by pointwise [k2_pay12]
  have e44 : ∀ y, k2_pay44 (F := Ideal) y (ix5 0 r 0 0 d) = y (ix2 r d) := fun y => by pointwise [k2_pay44]
  have e8 : k2_pay8 x2 = k2_pay7 x2 := rfl
  have e37 : ∀ y, k2_pay37 (F := Ideal) y = k2_pay36 y := fun _ => rfl
  simp only [hs] at hz
  rw [headPay2, e44, head2_apply, e8, e37, base2 i j hj]
  simp only [hz, hn, hk, hk', hcp, win2_apply i j hj hj4]
  rfl

/-- What a block leaves in the output's staging buffer. -/
theorem tile2  (c : Dev nD) (i : grid2.Coords) (arg2 : Memref sig .tc .vmem S1x4x128x128 .f32) (harg2 : arg2.IsWhole) (arg3 : Memref sig .tc .vmem S1x1024x128 .f32) (harg3 : arg3.IsWhole) (arg4 : Memref sig .tc .vmem S1x1024x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S128x8 .f32) (harg7 : arg7.IsWhole) (arg8 : Memref sig .tc .vmem S1x8 .f32) (harg8 : arg8.IsWhole) (arg9 : Memref sig .tc .vmem S1x128x1x4x128 .f32) (harg9 : arg9.IsWhole)
    (x0 : Vec Ideal S1x4x128x128 .f32) (x1 : Vec Ideal S1x1024x128 .f32) (x2 : Vec Ideal S1x1024x128 .f32) (x3 : Vec Ideal S64x128 .f32) (x4 : Vec Ideal S64x128 .f32) (x5 : Vec Ideal S128x8 .f32) (x6 : Vec Ideal S1x8 .f32) (y : S1x128x1x4x128.Idx) (j : Fin 8) (hj : (i 1).val + 4 = j.val) (hj4 : 4 ≤ j.val) :
    out2_A_7 (F := Ideal) c i arg2 harg2 arg3 harg3 arg4 harg4 arg5 harg5 arg6 harg6 arg7 harg7 arg8 harg8 arg9 harg9 x0 x1 x2 x3 x4 x5 x6 y
      = rowK (128 * j.val + (y 1).val) (128 * j.val - 256) (fun g d => x0 (ix4 0 g (y 1) d)) (fun p d => x1 (ix3 0 p d)) (fun p d => x2 (ix3 0 p d))
          (fun p d => x1 (ix3 0 ⟨128 * j.val - 256 + p.val, by omega⟩ d)) (fun p d => x2 (ix3 0 ⟨128 * j.val - 256 + p.val, by omega⟩ d))
          (fun c d => x3 (ix2 c d)) (fun c d => x4 (ix2 c d)) (fun d j => x5 (ix2 d j)) (fun j => x6 (ix2 0 j)) (y 3) (y 4) :=
  (tile2_heads ..).trans (head2_row i j hj hj4 x0 x1 x2 x3 x4 x5 x6 (y 3) (y 1) (y 4))

end Cert.KernelIdeal.RefValue
end
-- ==== Proof.Arrays.lean ====
/- The attention regions: what each leaves in the half of the output array that it writes. -/
module

public import proofs.«01_k».proof.Proof.Gen.KernelIdeal.Frame
public import proofs.«01_k».proof.Proof.Spec
public import proofs.«01_k».proof.Proof.Tile1
public import proofs.«01_k».proof.Proof.Tile2
public import Idealize.ShloMosaic.Lib.Pipeline.ValueKit

@[expose] public section
noncomputable section
open Idealize.ShloMosaic Idealize.ShloMosaic.TcCoe Idealize.SL.Sem
namespace Cert.KernelIdeal.RefValue
open Cert.KernelIdeal Cert.KernelIdeal.Gen Cert.Nsa

/-- Two rows from equal data are equal. -/
theorem rowK_congr {n : ℕ} {t t' w w' : ℕ} {Q Q' : Fin 4 → Fin 128 → EReal} {K K' V V' : Fin n → Fin 128 → EReal}
    {KW KW' VW VW' : Fin 384 → Fin 128 → EReal} {CK CK' CV CV' : Fin 64 → Fin 128 → EReal} {WG WG' : Fin 128 → Fin 8 → EReal}
    {BG BG' : Fin 8 → EReal} {g g' : Fin 4} {d d' : Fin 128} (ht : t = t') (hw : w = w') (hQ : ∀ g d, Q g d = Q' g d)
    (hK : ∀ p d, K p d = K' p d) (hV : ∀ p d, V p d = V' p d) (hKW : ∀ p d, KW p d = KW' p d) (hVW : ∀ p d, VW p d = VW' p d)
    (hCK : ∀ p d, CK p d = CK' p d) (hCV : ∀ p d, CV p d = CV' p d) (hWG : ∀ p d, WG p d = WG' p d) (hBG : ∀ p, BG p = BG' p)
    (hg : g = g') (hd : d = d') : rowK t w Q K V KW VW CK CV WG BG g d = rowK t' w' Q' K' V' KW' VW' CK' CV' WG' BG' g' d' := by
  obtain rfl := ht; obtain rfl := hw; obtain rfl := hg; obtain rfl := hd
  obtain rfl : Q = Q' := funext fun a => funext (hQ a)
  obtain rfl : K = K' := funext fun a => funext (hK a)
  obtain rfl : V = V' := funext fun a => funext (hV a)
  obtain rfl : KW = KW' := funext fun a => funext (hKW a)
  obtain rfl : VW = VW' := funext fun a => funext (hVW a)
  obtain rfl : CK = CK' := funext fun a => funext (hCK a)
  obtain rfl : CV = CV' := funext fun a => funext (hCV a)
  obtain rfl : WG = WG' := funext fun a => funext (hWG a)
  obtain rfl : BG = BG' := funext hBG
  rfl

/-- The row of the output at one index, from the arrays a region reads, with the first `n` keys in the selected branch. -/
def rowAt (n : ℕ) (hn : n ≤ 1024) (Q : S8x4x1024x128.Idx → EReal) (K V : S8x1024x128.Idx → EReal) (CK CV : S512x128.Idx → EReal)
    (WG : S128x8.Idx → EReal) (BG : S1x8.Idx → EReal) (b : Fin 4) (t : Fin 1024) (h : Fin 2) (g : Fin 4) (d : Fin 128) : EReal :=
  rowK (n := n) t.val (128 * (t.val / 128) - 256) (fun g d => Q (ix4 ⟨2 * b.val + h.val, by omega⟩ g t d))
    (fun p d => K (ix3 ⟨2 * b.val + h.val, by omega⟩ ⟨p.val, by omega⟩ d)) (fun p d => V (ix3 ⟨2 * b.val + h.val, by omega⟩ ⟨p.val, by omega⟩ d))
    (fun p d => K (ix3 ⟨2 * b.val + h.val, by omega⟩ ⟨128 * (t.val / 128) - 256 + p.val, by omega⟩ d))
    (fun p d => V (ix3 ⟨2 * b.val + h.val, by omega⟩ ⟨128 * (t.val / 128) - 256 + p.val, by omega⟩ d))
    (fun c d => CK (ix2 ⟨64 * (2 * b.val + h.val) + c.val, by omega⟩ d)) (fun c d => CV (ix2 ⟨64 * (2 * b.val + h.val) + c.val, by omega⟩ d))
    (fun d j => WG (ix2 d j)) (fun j => BG (ix2 0 j)) g d

variable (V : (c : Dev nD) → (b : Ref sig .tc) → Buf (Elt Ideal) ((c : Thread nD τ).loc b)) (c : Dev nD)

/-- Where the windows' blocks lie at each step of the first attention region. -/
theorem idx1 : ∀ t : Fin cfg1.N, win1_0.index t = ![(grid1.coords t 0).val, 0, (grid1.coords t 1).val, 0]
    ∧ win1_1.index t = ![(grid1.coords t 0).val, 0, 0] ∧ win1_2.index t = ![(grid1.coords t 0).val, 0, 0]
    ∧ win1_3.index t = ![(grid1.coords t 0).val, 0] ∧ win1_4.index t = ![(grid1.coords t 0).val, 0]
    ∧ win1_5.index t = ![0, 0] ∧ win1_6.index t = ![0, 0]
    ∧ win1_7.index t = ![(grid1.coords t 0).val / 2, (grid1.coords t 1).val, (grid1.coords t 0).val % 2, 0, 0] :=
  (by decide +kernel : ∀ t : Fin grid1.N, _)

set_option maxHeartbeats 4000000 in
/-- The first attention region's array: the first 512 positions of each sequence written, the others as found. -/
theorem low_array : (dat1 V c).arrAt 7 cfg1.N = fun i => if (i 1 : ℕ) / 128 < 4 then
      rowAt 512 (by norm_num) (V c main_v8) (V c main_v2) (V c main_v5) (V c main_v23_0) (V c main_v23_1) (V c main_v17) (V c main_v22) (i 0) (i 1) (i 2) (i 3) (i 4)
    else (dat1 V c).A 7 i := by
  refine (dat1 V c).arrAt_eq_of_coversWhere 7 _ (fun β => β (1 : Fin _) < 4) (by decide +kernel) (fun t hf y => ?_) (fun j => Iff.rfl)
  blk_simp
  rw [after1_7]
  have h1 : (grid1.coords t 1).val < 4 := (grid1.coords t 1).isLt
  refine (tile1 c (grid1.coords t) _ _ _ _ _ _ _ _ _ _ _ _ _ _ _ _ _ _ _ _ _ _ _ y ⟨(grid1.coords t 1).val, by omega⟩ rfl h1).trans ?_
  unfold rowAt
  refine rowK_congr ?_ ?_ (fun _ _ => ?_) (fun _ _ => ?_) (fun _ _ => ?_) (fun _ _ => ?_) (fun _ _ => ?_) (fun _ _ => ?_) (fun _ _ => ?_) (fun _ _ => ?_) (fun _ => ?_) ?_ ?_
  · have hb1 : (y 1).val < 128 := (y 1).isLt
    blk_simp [idx1 t]
    dsimp only
    omega
  · have hb1 : (y 1).val < 128 := (y 1).isLt
    blk_simp [idx1 t]
    dsimp only
    omega
  iterate 9 blk_ext [iblk1, idx1 t]
  · exact Fin.ext (by blk_simp [idx1 t])
  · exact Fin.ext (by blk_simp [idx1 t])

/-- Where the windows' blocks lie at each step of the second attention region. -/
theorem idx2 : ∀ t : Fin cfg2.N, win2_0.index t = ![(grid2.coords t 0).val, 0, (grid2.coords t 1).val + 4, 0]
    ∧ win2_1.index t = ![(grid2.coords t 0).val, 0, 0] ∧ win2_2.index t = ![(grid2.coords t 0).val, 0, 0]
    ∧ win2_3.index t = ![(grid2.coords t 0).val, 0] ∧ win2_4.index t = ![(grid2.coords t 0).val, 0]
    ∧ win2_5.index t = ![0, 0] ∧ win2_6.index t = ![0, 0]
    ∧ win2_7.index t = ![(grid2.coords t 0).val / 2, (grid2.coords t 1).val + 4, (grid2.coords t 0).val % 2, 0, 0] :=
  (by decide +kernel : ∀ t : Fin grid2.N, _)

set_option maxHeartbeats 4000000 in
/-- The second attention region's array: the last 512 positions of each sequence written, the others as found. -/
theorem high_array : (dat2 V c).arrAt 7 cfg2.N = fun i => if (i 1 : ℕ) / 128 ≥ 4 then
      rowAt 1024 le_rfl (V c main_v8) (V c main_v2) (V c main_v5) (V c main_v23_0) (V c main_v23_1) (V c main_v17) (V c main_v22) (i 0) (i 1) (i 2) (i 3) (i 4)
    else (dat2 V c).A 7 i := by
  refine (dat2 V c).arrAt_eq_of_coversWhere 7 _ (fun β => β (1 : Fin _) ≥ 4) (by decide +kernel) (fun t hf y => ?_) (fun j => Iff.rfl)
  blk_simp
  rw [after2_7]
  have h1 : (grid2.coords t 1).val < 4 := (grid2.coords t 1).isLt
  refine (tile2 c (grid2.coords t) _ _ _ _ _ _ _ _ _ _ _ _ _ _ _ _ _ _ _ _ _ _ _ y ⟨(grid2.coords t 1).val + 4, by omega⟩ rfl (Nat.le_add_left 4 _)).trans ?_
  unfold rowAt
  refine rowK_congr ?_ ?_ (fun _ _ => ?_) (fun _ _ => ?_) (fun _ _ => ?_) (fun _ _ => ?_) (fun _ _ => ?_) (fun _ _ => ?_) (fun _ _ => ?_) (fun _ _ => ?_) (fun _ => ?_) ?_ ?_
  · have hb1 : (y 1).val < 128 := (y 1).isLt
    blk_simp [idx2 t]
    dsimp only
    omega
  · have hb1 : (y 1).val < 128 := (y 1).isLt
    blk_simp [idx2 t]
    dsimp only
    omega
  iterate 9 blk_ext [iblk2, idx2 t]
  · exact Fin.ext (by blk_simp [idx2 t])
  · exact Fin.ext (by blk_simp [idx2 t])

end Cert.KernelIdeal.RefValue
end
-- ==== Proof.Out.lean ====
/- The kernel's result array after the run, at an index, as a function of its arguments. -/
module

public import proofs.«01_k».proof.Proof.Whole
public import proofs.«01_k».proof.Proof.Entry
public import proofs.«01_k».proof.Proof.Comp
public import proofs.«01_k».proof.Proof.Arrays

@[expose] public section
noncomputable section
open Idealize.ShloMosaic Idealize.ShloMosaic.TcCoe Idealize.SL.Sem
namespace Cert.KernelIdeal.RefValue
open Cert.KernelIdeal Cert.KernelIdeal.Gen Cert.Nsa

variable (m : (ℓ : Loc nD τ sig) → Buf (Elt Ideal) ℓ) (ρ : Dev nD → PrngReg) (c : Dev nD)

/-- The queries by row, head and lane. -/
def argQ : Fin 4096 → Fin 8 → Fin 128 → EReal := fun r h d => m ((c.tc : Thread nD τ).loc main_arg0) (ix3 r h d)
/-- The keys by row, head and lane. -/
def argK : Fin 4096 → Fin 2 → Fin 128 → EReal := fun r h d => m ((c.tc : Thread nD τ).loc main_arg1) (ix3 r h d)
/-- The values by row, head and lane. -/
def argV : Fin 4096 → Fin 2 → Fin 128 → EReal := fun r h d => m ((c.tc : Thread nD τ).loc main_arg2) (ix3 r h d)
/-- The keys' compression weights. -/
def argWk : Fin 4096 → Fin 128 → EReal := fun r d => m ((c.tc : Thread nD τ).loc main_arg5) (ix2 r d)
/-- The values' compression weights. -/
def argWv : Fin 4096 → Fin 128 → EReal := fun r d => m ((c.tc : Thread nD τ).loc main_arg6) (ix2 r d)
/-- The gates' weights. -/
def argWg : Fin 128 → Fin 3 → EReal := fun d j => m ((c.tc : Thread nD τ).loc main_arg7) (ix2 d j)
/-- The gates' biases. -/
def argBg : Fin 3 → EReal := fun j => m ((c.tc : Thread nD τ).loc main_arg8) (ix1 j)

/-- The compressed keys that the attention regions find. -/
theorem ck_apply (b : Fin 4) (h : Fin 2) (x : Fin 64) (d : Fin 128) :
    W2 m ρ c (Proc.devRef .tc main_v23_0) (ix2 ⟨64 * (2 * b.val + h.val) + x.val, by omega⟩ d) = comp (argK m c) (argWk m c) b h x d := by
  rw [show W2 m ρ c (Proc.devRef .tc main_v23_0) = (dat0 (V1 m ρ) c).arrAt 6 cfg0.N from W2_arr m ρ c 6, ck_array]
  unfold pairDot comp argK argWk row
  refine congrArg₂ (fun a b : EReal => a + b) (Finset.sum_congr rfl fun e _ => congrArg₂ (fun a b : EReal => a * b) ?_ ?_)
    (Finset.sum_congr rfl fun e _ => congrArg₂ (fun a b : EReal => a * b) ?_ ?_)
  · refine (W1_v9 m ρ c _ _).trans (congrArg₂ (fun r h => m ((c.tc : Thread nD τ).loc main_arg1) (ix3 r h ⟨e.val % 128, by omega⟩)) (Fin.ext ?_) (Fin.ext ?_))
    · simp; omega
    · simp; omega
  · exact W1_v11 m ρ c e d
  · refine (W1_v9 m ρ c _ _).trans (congrArg₂ (fun r h => m ((c.tc : Thread nD τ).loc main_arg1) (ix3 r h ⟨e.val % 128, by omega⟩)) (Fin.ext ?_) (Fin.ext ?_))
    · simp; omega
    · simp; omega
  · exact W1_v12 m ρ c e d

/-- The compressed values that the attention regions find. -/
theorem cv_apply (b : Fin 4) (h : Fin 2) (x : Fin 64) (d : Fin 128) :
    W2 m ρ c (Proc.devRef .tc main_v23_1) (ix2 ⟨64 * (2 * b.val + h.val) + x.val, by omega⟩ d) = comp (argV m c) (argWv m c) b h x d := by
  rw [show W2 m ρ c (Proc.devRef .tc main_v23_1) = (dat0 (V1 m ρ) c).arrAt 7 cfg0.N from W2_arr m ρ c 7, cv_array]
  unfold pairDot comp argV argWv row
  refine congrArg₂ (fun a b : EReal => a + b) (Finset.sum_congr rfl fun e _ => congrArg₂ (fun a b : EReal => a * b) ?_ ?_)
    (Finset.sum_congr rfl fun e _ => congrArg₂ (fun a b : EReal => a * b) ?_ ?_)
  · refine (W1_v10 m ρ c _ _).trans (congrArg₂ (fun r h => m ((c.tc : Thread nD τ).loc main_arg2) (ix3 r h ⟨e.val % 128, by omega⟩)) (Fin.ext ?_) (Fin.ext ?_))
    · simp; omega
    · simp; omega
  · exact W1_v13 m ρ c e d
  · refine (W1_v10 m ρ c _ _).trans (congrArg₂ (fun r h => m ((c.tc : Thread nD τ).loc main_arg2) (ix3 r h ⟨e.val % 128, by omega⟩)) (Fin.ext ?_) (Fin.ext ?_))
    · simp; omega
    · simp; omega
  · exact W1_v14 m ρ c e d

/-- A row of the attention regions from the arrays that they find is the kernel's function of the arguments. -/
theorem rowAt_apply (n : ℕ) (hn : n ≤ 1024) (b : Fin 4) (t : Fin 1024) (h : Fin 2) (g : Fin 4) (d : Fin 128) :
    rowAt n hn (W1 m ρ c (Proc.devRef .tc main_v8)) (W1 m ρ c (Proc.devRef .tc main_v2)) (W1 m ρ c (Proc.devRef .tc main_v5))
      (W2 m ρ c (Proc.devRef .tc main_v23_0)) (W2 m ρ c (Proc.devRef .tc main_v23_1)) (W1 m ρ c (Proc.devRef .tc main_v17))
      (W1 m ρ c (Proc.devRef .tc main_v22)) b t h g d
      = kerOut n hn (argQ m c) (argK m c) (argV m c) (argWk m c) (argWv m c) (argWg m c) (argBg m c) b t h g d := by
  have eb : (2 * b.val + h.val) / 2 = b.val := by omega
  have eh : (2 * b.val + h.val) % 2 = h.val := by omega
  have hQ : ∀ (g : Fin 4) (d : Fin 128), W1 m ρ c (Proc.devRef .tc main_v8) (ix4 ⟨2 * b.val + h.val, by omega⟩ g t d) = argQ m c (row b t) (head h g) d := by
    intro g d
    rw [W1_v8]
    exact congrArg₂ (fun r h => m ((c.tc : Thread nD τ).loc main_arg0) (ix3 r h d)) (Fin.ext (by simp [row, eb])) (Fin.ext (by simp [head, eh]))
  have hK : ∀ (p : Fin 1024) (d : Fin 128), W1 m ρ c (Proc.devRef .tc main_v2) (ix3 ⟨2 * b.val + h.val, by omega⟩ p d) = argK m c (row b p) h d := by
    intro p d
    rw [W1_v2]
    exact congrArg₂ (fun r h => m ((c.tc : Thread nD τ).loc main_arg1) (ix3 r h d)) (Fin.ext (by simp [row, eb])) (Fin.ext (by simp [eh]))
  have hV : ∀ (p : Fin 1024) (d : Fin 128), W1 m ρ c (Proc.devRef .tc main_v5) (ix3 ⟨2 * b.val + h.val, by omega⟩ p d) = argV m c (row b p) h d := by
    intro p d
    rw [W1_v5]
    exact congrArg₂ (fun r h => m ((c.tc : Thread nD τ).loc main_arg2) (ix3 r h d)) (Fin.ext (by simp [row, eb])) (Fin.ext (by simp [eh]))
  have hg : ∀ (j : Fin 3) (i : Fin 8) (e : i.val = j.val), gate (argQ m c (row b t) (head h g)) (fun d j => W1 m ρ c (Proc.devRef .tc main_v17) (ix2 d j))
      (fun j => W1 m ρ c (Proc.devRef .tc main_v22) (ix2 0 j)) i = gate (argQ m c (row b t) (head h g)) (argWg m c) (argBg m c) j := by
    intro j i e
    have hi : i.val < 3 := by omega
    have ej : (⟨i.val, hi⟩ : Fin 3) = j := Fin.ext e
    unfold gate
    refine congrArg Ideal.logistic (congrArg₂ (fun a b : EReal => a + b) (Finset.sum_congr rfl fun d _ => congrArg₂ (fun a b : EReal => a * b) rfl ?_) ?_)
    · exact (W1_v17 m ρ c d i hi).trans (congrArg (argWg m c d) ej)
    · exact (W1_v22 m ρ c i hi).trans (congrArg (argBg m c) ej)
  have hCK : ∀ (x : Fin 64) (d : Fin 128), W2 m ρ c (Proc.devRef .tc main_v23_0) (ix2 ⟨64 * (2 * b.val + h.val) + x.val, by omega⟩ d) = comp (argK m c) (argWk m c) b h x d :=
    fun x d => ck_apply m ρ c b h x d
  have hCV : ∀ (x : Fin 64) (d : Fin 128), W2 m ρ c (Proc.devRef .tc main_v23_1) (ix2 ⟨64 * (2 * b.val + h.val) + x.val, by omega⟩ d) = comp (argV m c) (argWv m c) b h x d :=
    fun x d => cv_apply m ρ c b h x d
  unfold rowAt rowK
  simp only [hQ, hK, hV, hCK, hCV]
  rw [hg 0 0 rfl, hg 1 1 rfl, hg 2 2 rfl]
  unfold kerOut
  rfl

/-- What the second attention region finds in its input arrays. -/
theorem found (r : Ref sig .tc) (h2 : r ∉ hostOps2_W) (h : ∀ w : Fin cfg1.W, Pipeline.arrRef spec1 w = r → (cfg1.win w).isOut = false) :
    V4 m ρ c r = W2 m ρ c (Proc.devRef .tc r) := (W4_of m ρ c r h2).trans (W3_of m ρ c r h)

/-- The output before its last reshape. -/
theorem out5 (b : Fin 4) (t : Fin 1024) (h : Fin 2) (g : Fin 4) (d : Fin 128) :
    W5 m ρ c (Proc.devRef .tc main_v25) (ix5 b t h g d) =
      if t.val < 512 then kerOut 512 (by norm_num) (argQ m c) (argK m c) (argV m c) (argWk m c) (argWv m c) (argWg m c) (argBg m c) b t h g d
      else kerOut 1024 le_rfl (argQ m c) (argK m c) (argV m c) (argWk m c) (argWv m c) (argWg m c) (argBg m c) b t h g d := by
  have f1 : ∀ r : Ref sig .tc, (∀ w : Fin cfg0.W, Pipeline.arrRef spec0 w = r → (cfg0.win w).isOut = false) →
      W2 m ρ c (Proc.devRef .tc r) = W1 m ρ c (Proc.devRef .tc r) := fun r h => W2_of m ρ c r h
  rw [show W5 m ρ c (Proc.devRef .tc main_v25) = (dat2 (V4 m ρ) c).arrAt 7 cfg2.N from W5_arr m ρ c 7, high_array]
  change (if t.val / 128 ≥ 4 then rowAt 1024 le_rfl _ _ _ _ _ _ _ b t h g d else V4 m ρ c main_v25 (ix5 b t h g d)) = _
  by_cases ht : t.val < 512
  · rw [if_neg (by omega), if_pos ht]
    have e : V4 m ρ c main_v25 = W3 m ρ c (Proc.devRef .tc main_v24) := by
      funext i
      after_reads_at
      rfl
    rw [e, show W3 m ρ c (Proc.devRef .tc main_v24) = (dat1 (V2 m ρ) c).arrAt 7 cfg1.N from W3_arr m ρ c 7, low_array]
    change (if t.val / 128 < 4 then rowAt 512 (by norm_num) _ _ _ _ _ _ _ b t h g d else _) = _
    rw [if_pos (by omega), ← rowAt_apply m ρ c]
    simp only [V2]
    rw [f1 main_v8 (by decide +kernel), f1 main_v2 (by decide +kernel), f1 main_v5 (by decide +kernel), f1 main_v17 (by decide +kernel), f1 main_v22 (by decide +kernel)]
  · rw [if_pos (by omega), if_neg ht, ← rowAt_apply m ρ c]
    rw [found m ρ c main_v8 (by decide +kernel) (by decide +kernel), found m ρ c main_v2 (by decide +kernel) (by decide +kernel),
      found m ρ c main_v5 (by decide +kernel) (by decide +kernel), found m ρ c main_v17 (by decide +kernel) (by decide +kernel),
      found m ρ c main_v22 (by decide +kernel) (by decide +kernel), found m ρ c main_v23_0 (by decide +kernel) (by decide +kernel),
      found m ρ c main_v23_1 (by decide +kernel) (by decide +kernel)]
    rw [f1 main_v8 (by decide +kernel), f1 main_v2 (by decide +kernel), f1 main_v5 (by decide +kernel), f1 main_v17 (by decide +kernel), f1 main_v22 (by decide +kernel)]

/-- Two indices with equal coordinates are equal. -/
theorem ix5_congr {a b' e f : ℕ} {n : ℕ} {x x' : Fin a} {y y' : Fin b'} {z z' : Fin e} {u u' : Fin f} {d : Fin n} (hx : x = x') (hy : y = y') (hz : z = z')
    (hu : u = u') : ix5 x y z u d = ix5 x' y' z' u' d := by rw [hx, hy, hz, hu]

/-- The result, at an index. -/
theorem out6 (b : Fin 4) (t : Fin 1024) (h : Fin 2) (g : Fin 4) (d : Fin 128) :
    W6 m ρ c (Proc.devRef .tc main_v26) (ix3 (row b t) (head h g) d) = W5 m ρ c (Proc.devRef .tc main_v25) (ix5 b t h g d) := by
  after_reads_at
  unfold row head
  exact congrArg (W5 m ρ c (Proc.devRef .tc main_v25)) (ix5_congr (Fin.ext (by simp; omega)) (Fin.ext (by simp)) (Fin.ext (by simp; omega)) (Fin.ext (by simp)))
end Cert.KernelIdeal.RefValue
end
-- ==== Proof.RefWhole.lean ====
/- The reference's function of its arguments, as plain functions over the extended reals. -/
module

public import proofs.«01_k».proof.Proof.Whole

@[expose] public section
noncomputable section
namespace Cert.Nsa
open Idealize.ShloMosaic

/-- A compressed row as the reference computes it: the 32 positions from `16 c` on against all the weights. -/
def rcomp (k : Fin 4096 → Fin 2 → Fin 128 → EReal) (w : Fin 4096 → Fin 128 → EReal) (b : Fin 4) (h : Fin 2) (c : Fin 63) (d : Fin 128) : EReal :=
  ∑ e : Fin 4096, k (row b ⟨16 * c.val + e.val / 128, by omega⟩) h ⟨e.val % 128, by omega⟩ * w e d

/-- The mean of the summed probabilities over the at most five compressed blocks that overlap a selection block. -/
def rpool (s : Fin 63 → EReal) (m : Fin 16) : EReal :=
  Ideal.div (∑ j : Fin 5, s ⟨min (4 * m.val + j.val) 62, by omega⟩ * ind (4 * m.val + j.val < 63)) ((if m.val = 15 then 3 else 5 : ℝ) : EReal)

/-- The reference's result at the head `g` of the key head `h` and the position `t` of the sequence `b`. -/
def refOut (q : Fin 4096 → Fin 8 → Fin 128 → EReal) (k v : Fin 4096 → Fin 2 → Fin 128 → EReal)
    (wk wv : Fin 4096 → Fin 128 → EReal) (wg : Fin 128 → Fin 3 → EReal) (bg : Fin 3 → EReal)
    (b : Fin 4) (t : Fin 1024) (h : Fin 2) (g : Fin 4) (d : Fin 128) : EReal :=
  gate (q (row b t) (head h g)) wg bg 0 * (∑ p : Fin 1024, soft (fun p : Fin 1024 => if seen (rpool fun x => ∑ g : Fin 4, cprob t.val (q (row b t) (head h g)) (rcomp k wk b h) x) t.val p.val then
        logit (q (row b t) (head h g)) (k (row b p) h) else ⊥) p * v (row b p) h d)
    + gate (q (row b t) (head h g)) wg bg 1 * (∑ p : Fin 1024, soft (fun p : Fin 1024 => if near t.val p.val then logit (q (row b t) (head h g)) (k (row b p) h) else ⊥) p * v (row b p) h d)
    + gate (q (row b t) (head h g)) wg bg 2 * ∑ c : Fin 63, cprob t.val (q (row b t) (head h g)) (rcomp k wk b h) c * rcomp v wv b h c d

end Cert.Nsa
end
-- ==== Proof.Soft.lean ====
/- Softmax attention over a masked row of real logits is attention by unshifted exponential weights, divided at the end. -/
module

public import proofs.«01_k».proof.Proof.RefWhole

@[expose] public section
noncomputable section
open Idealize.ShloMosaic
namespace Cert.Nsa

/-- The greatest element of a row is its supremum. -/
theorem top_eq_sup {n : ℕ} (x : Fin n → EReal) : top x = Finset.univ.sup x := rfl

/-- A sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor distributes over a sum of extended reals. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

section
variable {n : ℕ} (l : Fin n → ℝ) (S : Fin n → Prop) [DecidablePred S]

/-- A masked row of reals that is not empty has a real greatest element. -/
theorem top_real (hne : ∃ p, S p) : ∃ M : ℝ, top (fun p => if S p then (l p : EReal) else ⊥) = (M : EReal) := by
  obtain ⟨p0, hp0⟩ := hne
  rw [top_eq_sup]
  obtain ⟨i, -, hi⟩ := Finset.exists_mem_eq_sup (Finset.univ : Finset (Fin n)) ⟨p0, Finset.mem_univ _⟩ (fun p => if S p then (l p : EReal) else ⊥)
  have h0 : (l p0 : EReal) ≤ Finset.univ.sup (fun p => if S p then (l p : EReal) else ⊥) := by
    have := Finset.le_sup (f := fun p => if S p then (l p : EReal) else ⊥) (Finset.mem_univ p0)
    rwa [if_pos hp0] at this
  rw [hi] at h0 ⊢
  by_cases hs : S i
  · exact ⟨l i, if_pos hs⟩
  · rw [if_neg hs] at h0
    exact absurd (le_bot_iff.1 h0) (EReal.coe_ne_bot _)

/-- The weight of a position: the exponential of its logit, zero where the mask is. -/
def weight (l : Fin n → ℝ) (S : Fin n → Prop) [DecidablePred S] (p : Fin n) : ℝ := if S p then Real.exp (l p) else 0

theorem weight_nonneg (p : Fin n) : 0 ≤ weight l S p := by
  unfold weight; split_ifs
  · exact (Real.exp_pos _).le
  · exact le_rfl

/-- The weights of a mask that is not empty have a positive sum. -/
theorem weight_sum_pos (hne : ∃ p, S p) : 0 < ∑ p, weight l S p := by
  obtain ⟨p0, hp0⟩ := hne
  refine Finset.sum_pos' (fun p _ => weight_nonneg l S p) ⟨p0, Finset.mem_univ _, ?_⟩
  unfold weight
  rw [if_pos hp0]
  exact Real.exp_pos _

/-- The softmax of a masked row of reals: the weights over their sum. -/
theorem soft_real (hne : ∃ p, S p) (p : Fin n) :
    soft (fun p => if S p then (l p : EReal) else ⊥) p = ((weight l S p * (1 / ∑ p, weight l S p) : ℝ) : EReal) := by
  obtain ⟨M, hM⟩ := top_real l S hne
  have he : ∀ j, Ideal.exp ((if S j then (l j : EReal) else ⊥) - top (fun p => if S p then (l p : EReal) else ⊥))
      = ((weight l S j * Real.exp (-M) : ℝ) : EReal) := by
    intro j
    rw [hM]
    unfold weight
    by_cases hs : S j
    · rw [if_pos hs, if_pos hs, ← EReal.coe_sub, Ideal.exp_coe, ← Real.exp_add, sub_eq_add_neg]
    · rw [if_neg hs, if_neg hs, EReal.bot_sub, Ideal.exp_bot, zero_mul, EReal.coe_zero]
  have hpos := weight_sum_pos l S hne
  have hM' := Real.exp_pos (-M)
  unfold soft
  simp only [he]
  rw [← coe_sum, ← Finset.sum_mul, Ideal.div_coe (mul_pos hpos hM').ne', ← EReal.coe_mul]
  congr 1
  field_simp
end

/-- Softmax attention over the positions of a mask that is not empty, whose logits are real: the values weighted by the
    unshifted exponentials, divided by the weights' sum. -/
theorem soft_lin {n : ℕ} (q : Fin 128 → EReal) (k v : Fin n → Fin 128 → EReal) (l : Fin n → ℝ) (hl : ∀ p, logit q (k p) = (l p : EReal))
    (S : Fin n → Prop) [DecidablePred S] (hne : ∃ p, S p) (d : Fin 128) :
    ∑ p, soft (fun p => if S p then logit q (k p) else ⊥) p * v p d = lin q k v (fun p => ind (S p)) d := by
  have hw : ∀ p, Ideal.exp (l p : EReal) * ind (S p) = (weight l S p : EReal) := by
    intro p
    rw [Ideal.exp_coe]
    unfold ind weight
    by_cases hs : S p
    · rw [if_pos hs, if_pos hs, mul_one]
    · rw [if_neg hs, if_neg hs, mul_zero, EReal.coe_zero]
  have hpos := weight_sum_pos l S hne
  unfold lin
  simp only [hl, hw, soft_real l S hne]
  rw [← coe_sum, Ideal.div_coe hpos.ne', sum_mul_real _ _ _ (by positivity)]
  refine Finset.sum_congr rfl fun p _ => ?_
  rw [EReal.coe_mul, mul_assoc, mul_assoc, mul_comm (v p d)]

/-- Attention over keys of which only those at an injection's image have a weight. -/
theorem lin_inj {n N : ℕ} (e : Fin n → Fin N) (he : Function.Injective e) (q : Fin 128 → EReal) (k v : Fin N → Fin 128 → EReal) (z : Fin N → EReal)
    (hz : ∀ i, i ∉ Set.range e → z i = 0) (d : Fin 128) :
    lin q (fun p => k (e p)) (fun p => v (e p)) (fun p => z (e p)) d = lin q k v z d := by
  unfold lin
  refine congrArg₂ Ideal.div ?_ ?_
  · exact Fintype.sum_of_injective e he _ _ (fun i hi => by rw [hz i hi, mul_zero, zero_mul]) (fun _ => rfl)
  · exact Fintype.sum_of_injective e he _ _ (fun i hi => by rw [hz i hi, mul_zero]) (fun _ => rfl)
end Cert.Nsa
end
-- ==== Proof.Scores.lean ====
/- The kernel's compressed rows, probabilities and block scores are the reference's. -/
module

public import proofs.«01_k».proof.Proof.Soft

@[expose] public section
noncomputable section
open Idealize.ShloMosaic
namespace Cert.Nsa

/-- The kernel's compressed row is the reference's: the sum over the 4096 entries of a window, in two halves. -/
theorem comp_eq (k : Fin 4096 → Fin 2 → Fin 128 → EReal) (w : Fin 4096 → Fin 128 → EReal) (b : Fin 4) (h : Fin 2) (c : Fin 63) (d : Fin 128) :
    comp k w b h c.castSucc d = rcomp k w b h c d := by
  unfold comp rcomp
  refine Eq.trans ?_ (Fin.sum_univ_add (a := 2048) (b := 2048) _).symm
  refine congrArg₂ (fun a b : EReal => a + b) (Finset.sum_congr rfl fun e _ => ?_) (Finset.sum_congr rfl fun e _ => ?_)
  · rfl
  · refine congrArg₂ (fun a b : EReal => a * b) (congrArg₂ (fun r l => k r h l) (Fin.ext ?_) (Fin.ext ?_)) rfl
    · simp [row]; omega
    · simp; omega

/-- A compressed row of reals is real. -/
theorem comp_real (k : Fin 4096 → Fin 2 → Fin 128 → EReal) (w : Fin 4096 → Fin 128 → EReal)
    (hk : ∀ r h d, ∃ x : ℝ, k r h d = (x : EReal)) (hw : ∀ r d, ∃ x : ℝ, w r d = (x : EReal)) (b : Fin 4) (h : Fin 2) (c : Fin 64) (d : Fin 128) :
    ∃ x : ℝ, comp k w b h c d = (x : EReal) := by
  choose k' hk' using hk
  choose w' hw' using hw
  unfold comp
  simp only [hk', hw', ← EReal.coe_mul]
  rw [← coe_sum, ← coe_sum, ← EReal.coe_add]
  exact ⟨_, rfl⟩

/-- The logit of two rows of reals is real. -/
theorem logit_real (q k : Fin 128 → EReal) (hq : ∀ d, ∃ x : ℝ, q d = (x : EReal)) (hk : ∀ d, ∃ x : ℝ, k d = (x : EReal)) :
    ∃ x : ℝ, logit q k = (x : EReal) := by
  choose q' hq' using hq
  choose k' hk' using hk
  unfold logit scale
  simp only [hq', hk', ← EReal.coe_mul]
  rw [← coe_sum, ← EReal.coe_mul]
  exact ⟨_, rfl⟩

/-- Appending `⊥` to a row leaves its greatest element. -/
theorem top_append {n : ℕ} (x : Fin (n + 1) → EReal) (hx : x (Fin.last n) = ⊥) : top x = top (fun c : Fin n => x c.castSucc) := by
  rw [top_eq_sup, top_eq_sup]
  refine le_antisymm (Finset.sup_le fun c _ => ?_) (Finset.sup_le fun c _ => Finset.le_sup (f := x) (Finset.mem_univ c.castSucc))
  refine Fin.lastCases ?_ (fun i => ?_) c
  · rw [hx]; exact bot_le
  · exact Finset.le_sup (f := fun c : Fin n => x c.castSucc) (Finset.mem_univ i)

/-- Appending `⊥` to a row leaves its softmax. -/
theorem soft_append {n : ℕ} (x : Fin (n + 1) → EReal) (hx : x (Fin.last n) = ⊥) (c : Fin n) : soft x c.castSucc = soft (fun c : Fin n => x c.castSucc) c := by
  unfold soft
  rw [top_append x hx, Fin.sum_univ_castSucc, hx, EReal.bot_sub, Ideal.exp_bot, add_zero]

section
variable (t : ℕ) (ht : t < 1024) (q : Fin 128 → EReal) (ck : Fin 64 → Fin 128 → EReal) (rk : Fin 63 → Fin 128 → EReal)
include ht

/-- The kernel's compressed probabilities are the reference's; the 64th row is never complete. -/
theorem cprob_eq (hr : ∀ c d, ck c.castSucc d = rk c d) (c : Fin 63) : cprob t q ck c.castSucc = cprob t q rk c := by
  have hx : clog t q ck (Fin.last 63) = ⊥ := by
    unfold clog
    exact if_neg (by simp; omega)
  have hc : (fun c : Fin 63 => clog t q ck c.castSucc) = clog t q rk := by
    funext c
    unfold clog
    rw [show ck c.castSucc = rk c from funext (hr c)]
    rfl
  unfold cprob
  rw [soft_append (n := 63) (clog t q ck) hx c, hc]

omit ht in
/-- Before the first complete block the compressed probabilities are zero. -/
theorem cprob_early {n : ℕ} (ck : Fin n → Fin 128 → EReal) (h : ¬ 31 ≤ t) (c : Fin n) : cprob t q ck c = 0 := by
  unfold cprob
  rw [if_neg h, mul_zero]

omit ht in
/-- The compressed probabilities are nonnegative reals, zero at the blocks that are not complete. -/
theorem cprob_real (hl : ∀ c, ∃ x : ℝ, logit q (ck c) = (x : EReal)) :
    ∃ r : Fin 64 → ℝ, (∀ c, cprob t q ck c = (r c : EReal)) ∧ (∀ c, 0 ≤ r c) ∧ ∀ c : Fin 64, ¬ 16 * c.val + 31 ≤ t → r c = 0 := by
  by_cases h : 31 ≤ t
  · choose l hl' using hl
    have hne : ∃ c : Fin 64, 16 * c.val + 31 ≤ t := ⟨0, by simpa using h⟩
    refine ⟨fun c => weight l (fun c => 16 * c.val + 31 ≤ t) c * (1 / ∑ c, weight l (fun c => 16 * c.val + 31 ≤ t) c), fun c => ?_, fun c => ?_, fun c hc => ?_⟩
    · unfold cprob
      rw [if_pos h, mul_one, ← soft_real l (fun c => 16 * c.val + 31 ≤ t) hne c]
      refine congrFun (congrArg soft (funext fun c => ?_)) c
      unfold clog
      rw [hl' c]
    · exact mul_nonneg (weight_nonneg l _ c) (one_div_nonneg.2 (weight_sum_pos l (fun c => 16 * c.val + 31 ≤ t) hne).le)
    · change weight l (fun c => 16 * c.val + 31 ≤ t) c * _ = 0
      rw [show weight l (fun c => 16 * c.val + 31 ≤ t) c = 0 from if_neg hc, zero_mul]
  · exact ⟨fun _ => 0, fun c => by rw [cprob_early t q ck h c, EReal.coe_zero], fun _ => le_rfl, fun _ _ => rfl⟩
end

/-- How many compressed blocks overlap a selection block. -/
theorem overlap_count (m : Fin 16) : ∑ c : Fin 64, ind (overlap c.val m.val) = ((if m.val = 15 then 3 else 5 : ℝ) : EReal) := by
  have e : ∀ m : Fin 16, ∑ c : Fin 64, (if overlap c.val m.val then 1 else 0 : ℕ) = if m.val = 15 then 3 else 5 := by decide +kernel
  have e2 : ∑ c : Fin 64, ind (overlap c.val m.val) = ((∑ c : Fin 64, (if overlap c.val m.val then 1 else 0 : ℝ) : ℝ) : EReal) := by
    rw [coe_sum]
    refine Finset.sum_congr rfl fun c _ => ?_
    unfold ind
    split_ifs <;> simp
  rw [e2]
  have e3 : (∑ c : Fin 64, (if overlap c.val m.val then 1 else 0 : ℝ)) = ((∑ c : Fin 64, (if overlap c.val m.val then 1 else 0 : ℕ) : ℕ) : ℝ) := by
    push_cast
    rfl
  rw [e3, e m]
  congr 1
  split_ifs <;> norm_num

/-- The kernel's block score is the reference's: the sum over the blocks that overlap, gathered. -/
theorem score_eq (s : Fin 64 → EReal) (s' : Fin 63 → EReal) (hs : ∀ c : Fin 63, s c.castSucc = s' c) (m : Fin 16) : score s m = rpool s' m := by
  unfold score rpool
  rw [overlap_count]
  refine congrArg₂ Ideal.div ?_ rfl
  let F : ℕ → EReal := fun c => if hc : c < 63 then s' ⟨c, hc⟩ * ind (overlap c m.val) else 0
  have hF : ∀ c : Fin 64, s c * ind (overlap c.val m.val) = F c.val := by
    intro c
    by_cases hc : c.val < 63
    · have := hs ⟨c.val, hc⟩
      simp only [F, dif_pos hc]
      rw [← this]
      rfl
    · simp only [F, dif_neg hc]
      unfold ind
      rw [if_neg (fun h : overlap c.val m.val => hc h.2), mul_zero]
  have hG : ∀ j : Fin 5, s' ⟨min (4 * m.val + j.val) 62, by omega⟩ * ind (4 * m.val + j.val < 63) = F (4 * m.val + j.val) := by
    intro j
    by_cases hc : 4 * m.val + j.val < 63
    · simp only [F, dif_pos hc]
      have e : (⟨min (4 * m.val + j.val) 62, by omega⟩ : Fin 63) = ⟨4 * m.val + j.val, hc⟩ := Fin.ext (by simp; omega)
      have ho : overlap (4 * m.val + j.val) m.val := ⟨⟨by omega, by omega⟩, hc⟩
      rw [e]
      unfold ind
      rw [if_pos hc, if_pos ho]
    · simp only [F, dif_neg hc]
      unfold ind
      rw [if_neg hc, mul_zero]
  simp only [hF, hG]
  have h65 : ∑ c : Fin 64, F c.val = ∑ c : Fin 65, F c.val := by
    rw [Fin.sum_univ_castSucc (n := 64)]
    have : F (Fin.last 64).val = 0 := dif_neg (by simp)
    rw [this, add_zero]
    rfl
  rw [h65]
  symm
  refine Fintype.sum_of_injective (fun j : Fin 5 => (⟨4 * m.val + j.val, by omega⟩ : Fin 65)) (fun a b hab => ?_) _ _ (fun i hi => ?_) (fun _ => rfl)
  · have := congrArg Fin.val hab
    exact Fin.ext (by simpa using this)
  · have hno : ¬ overlap i.val m.val := by
      rintro ⟨⟨h1, h2⟩, h3⟩
      exact hi ⟨⟨i.val - 4 * m.val, by omega⟩, Fin.ext (by simp; omega)⟩
    change F i.val = 0
    by_cases hc : i.val < 63
    · simp only [F, dif_pos hc]
      unfold ind
      rw [if_neg hno, mul_zero]
    · exact dif_neg hc

/-- Scores of nonnegative reals that vanish at the blocks that are not complete are nonnegative, and zero at the selection
    blocks that begin after the position. -/
theorem score_sign (t : ℕ) (s : Fin 64 → EReal) (r : Fin 64 → ℝ) (hr : ∀ c, s c = (r c : EReal)) (h0 : ∀ c, 0 ≤ r c)
    (hz : ∀ c : Fin 64, ¬ 16 * c.val + 31 ≤ t → r c = 0) (m : Fin 16) : 0 ≤ score s m ∧ (t < 64 * m.val → score s m = 0) := by
  have hp : (0 : ℝ) < if m.val = 15 then 3 else 5 := by split_ifs <;> norm_num
  have he : ∀ c : Fin 64, s c * ind (overlap c.val m.val) = ((r c * (if overlap c.val m.val then 1 else 0) : ℝ) : EReal) := by
    intro c
    rw [hr c]
    unfold ind
    split_ifs <;> simp
  have hnum : (∑ c, s c * ind (overlap c.val m.val)) = ((∑ c, r c * (if overlap c.val m.val then 1 else 0) : ℝ) : EReal) := by
    rw [coe_sum]
    exact Finset.sum_congr rfl fun c _ => he c
  unfold score
  rw [overlap_count, hnum, Ideal.div_coe hp.ne', ← EReal.coe_mul]
  constructor
  · have : 0 ≤ ∑ c, r c * (if overlap c.val m.val then (1 : ℝ) else 0) := Finset.sum_nonneg fun c _ => mul_nonneg (h0 c) (by split_ifs <;> norm_num)
    exact_mod_cast mul_nonneg this (one_div_nonneg.2 hp.le)
  · intro ht
    have : (∑ c, r c * (if overlap c.val m.val then (1 : ℝ) else 0)) = 0 := by
      refine Finset.sum_eq_zero fun c _ => ?_
      by_cases ho : overlap c.val m.val
      · rw [hz c (by have := ho.1.1; omega), zero_mul]
      · rw [if_neg ho, mul_zero]
    rw [this, zero_mul, EReal.coe_zero]

/-- Under such scores some block that begins at or before the position comes before every other. -/
theorem first_block (t : ℕ) (p : Fin 16 → EReal) (h0 : ∀ m, 0 ≤ p m) (hz : ∀ m : Fin 16, t < 64 * m.val → p m = 0) :
    ∃ m : Fin 16, 64 * m.val ≤ t ∧ rank p m < 8 := by
  obtain ⟨m, -, hm⟩ := Finset.exists_min_image (Finset.univ : Finset (Fin 16)) (fun m => toLex (OrderDual.toDual (p m), m)) ⟨0, Finset.mem_univ _⟩
  have hm' : ∀ m' : Fin 16, ¬ (p m < p m' ∨ (p m' = p m ∧ m' < m)) := by
    rintro m' (h | ⟨he, hl⟩)
    · exact absurd (hm m' (Finset.mem_univ _)) (not_le.2 (Prod.Lex.toLex_lt_toLex.2 (Or.inl (OrderDual.toDual_lt_toDual.2 h))))
    · exact absurd (hm m' (Finset.mem_univ _)) (not_le.2 (Prod.Lex.toLex_lt_toLex.2 (Or.inr ⟨congrArg OrderDual.toDual he, hl⟩)))
  refine ⟨m, ?_, ?_⟩
  · by_contra hc
    have hpm := hz m (by omega)
    have hlt : (0 : Fin 16) < m := Fin.pos_iff_ne_zero.2 (fun e => hc (by rw [e]; simp))
    rcases (h0 0).lt_or_eq with h | h
    · exact hm' 0 (Or.inl (by rw [hpm]; exact h))
    · exact hm' 0 (Or.inr ⟨by rw [hpm]; exact h.symm, hlt⟩)
  · unfold rank
    rw [Finset.filter_false_of_mem (fun m' _ => hm' m')]
    simp

end Cert.Nsa
end
-- ==== Proof.Equal.lean ====
/- The kernel's function of its arguments is the reference's, where the queries, the keys and the keys' compression weights
   are real. -/
module

public import proofs.«01_k».proof.Proof.Scores

@[expose] public section
noncomputable section
open Idealize.ShloMosaic
namespace Cert.Nsa

variable (q : Fin 4096 → Fin 8 → Fin 128 → EReal) (k v : Fin 4096 → Fin 2 → Fin 128 → EReal) (wk wv : Fin 4096 → Fin 128 → EReal)
  (b : Fin 4) (t : Fin 1024) (h : Fin 2) (g : Fin 4) (d : Fin 128)

/-- The kernel's block scores of a query. -/
def kerScore : Fin 16 → EReal :=
  score fun c => cprob t.val (q (row b t) (head h 0)) (comp k wk b h) c + cprob t.val (q (row b t) (head h 1)) (comp k wk b h) c
        + cprob t.val (q (row b t) (head h 2)) (comp k wk b h) c + cprob t.val (q (row b t) (head h 3)) (comp k wk b h) c

/-- The kernel's block scores are the reference's. -/
theorem kerScore_eq : kerScore q k wk b t h = rpool fun x => ∑ g : Fin 4, cprob t.val (q (row b t) (head h g)) (rcomp k wk b h) x := by
  funext m
  refine score_eq _ _ (fun c => ?_) m
  rw [Fin.sum_univ_four]
  simp only [fun g => cprob_eq t.val t.isLt (q (row b t) (head h g)) (comp k wk b h) (rcomp k wk b h) (comp_eq k wk b h) c]

section
variable (hq : ∀ r h d, ∃ x : ℝ, q r h d = (x : EReal)) (hk : ∀ r h d, ∃ x : ℝ, k r h d = (x : EReal)) (hw : ∀ r d, ∃ x : ℝ, wk r d = (x : EReal))
include hq hk hw

/-- A query against a compressed row is real. -/
theorem clogit_real (c : Fin 64) : ∃ x : ℝ, logit (q (row b t) (head h g)) (comp k wk b h c) = (x : EReal) :=
  logit_real _ _ (fun d => hq _ _ d) (fun d => comp_real k wk hk hw b h c d)

/-- The selected branch sees a key. -/
theorem seen_exists : ∃ p : Fin 1024, seen (kerScore q k wk b t h) t.val p.val := by
  obtain ⟨r0, e0, n0, z0⟩ := cprob_real t.val (q (row b t) (head h 0)) (comp k wk b h) (clogit_real q k wk b t h 0 hq hk hw)
  obtain ⟨r1, e1, n1, z1⟩ := cprob_real t.val (q (row b t) (head h 1)) (comp k wk b h) (clogit_real q k wk b t h 1 hq hk hw)
  obtain ⟨r2, e2, n2, z2⟩ := cprob_real t.val (q (row b t) (head h 2)) (comp k wk b h) (clogit_real q k wk b t h 2 hq hk hw)
  obtain ⟨r3, e3, n3, z3⟩ := cprob_real t.val (q (row b t) (head h 3)) (comp k wk b h) (clogit_real q k wk b t h 3 hq hk hw)
  have hs := score_sign t.val (fun c => cprob t.val (q (row b t) (head h 0)) (comp k wk b h) c + cprob t.val (q (row b t) (head h 1)) (comp k wk b h) c
        + cprob t.val (q (row b t) (head h 2)) (comp k wk b h) c + cprob t.val (q (row b t) (head h 3)) (comp k wk b h) c)
    (fun c => r0 c + r1 c + r2 c + r3 c) (fun c => by rw [e0, e1, e2, e3]; push_cast; rfl)
    (fun c => by have := n0 c; have := n1 c; have := n2 c; have := n3 c; positivity)
    (fun c hc => by rw [z0 c hc, z1 c hc, z2 c hc, z3 c hc]; norm_num)
  obtain ⟨m, hm, hr⟩ := first_block t.val (kerScore q k wk b t h) (fun m => (hs m).1) (fun m => (hs m).2)
  have := t.isLt
  exact ⟨⟨64 * m.val, by omega⟩, ⟨m, by simp, hr⟩, hm⟩

/-- The selected branch of the kernel is the reference's. -/
theorem selected_eq (n : ℕ) (hn : n ≤ 1024) (htn : t.val < n) :
    lin (n := n) (q (row b t) (head h g)) (fun p => k (row b ⟨p.val, by omega⟩) h) (fun p => v (row b ⟨p.val, by omega⟩) h)
      (fun p => ind (seen (kerScore q k wk b t h) t.val p.val)) d
    = ∑ p : Fin 1024, soft (fun p : Fin 1024 => if seen (kerScore q k wk b t h) t.val p.val then
        logit (q (row b t) (head h g)) (k (row b p) h) else ⊥) p * v (row b p) h d := by
  choose l hl using fun p : Fin 1024 => logit_real (q (row b t) (head h g)) (k (row b p) h) (fun d => hq _ _ d) (fun d => hk _ _ d)
  refine Eq.trans ?_ (soft_lin (q (row b t) (head h g)) (fun p : Fin 1024 => k (row b p) h) (fun p => v (row b p) h) l hl
    (fun p => seen (kerScore q k wk b t h) t.val p.val) (seen_exists q k wk b t h hq hk hw) d).symm
  refine lin_inj (fun p : Fin n => (⟨p.val, by omega⟩ : Fin 1024)) (fun a b hab => Fin.ext (by simpa using congrArg Fin.val hab)) _
    (fun p : Fin 1024 => k (row b p) h) (fun p => v (row b p) h) (fun p => ind (seen (kerScore q k wk b t h) t.val p.val)) (fun i hi => ?_) d
  refine if_neg (fun hs : seen (kerScore q k wk b t h) t.val i.val => hi ⟨⟨i.val, ?_⟩, rfl⟩)
  have := hs.2
  omega

omit hw in
/-- The window branch of the kernel is the reference's. -/
theorem window_eq :
    lin (n := 384) (q (row b t) (head h g)) (fun p => k (row b ⟨128 * (t.val / 128) - 256 + p.val, by omega⟩) h)
        (fun p => v (row b ⟨128 * (t.val / 128) - 256 + p.val, by omega⟩) h) (fun p => ind (near t.val (128 * (t.val / 128) - 256 + p.val))) d
    = ∑ p : Fin 1024, soft (fun p : Fin 1024 => if near t.val p.val then logit (q (row b t) (head h g)) (k (row b p) h) else ⊥) p * v (row b p) h d := by
  choose l hl using fun p : Fin 1024 => logit_real (q (row b t) (head h g)) (k (row b p) h) (fun d => hq _ _ d) (fun d => hk _ _ d)
  refine Eq.trans ?_ (soft_lin (q (row b t) (head h g)) (fun p : Fin 1024 => k (row b p) h) (fun p => v (row b p) h) l hl
    (fun p => near t.val p.val) ⟨t, le_rfl, by omega⟩ d).symm
  refine lin_inj (fun p : Fin 384 => (⟨128 * (t.val / 128) - 256 + p.val, by omega⟩ : Fin 1024)) (fun a b hab => Fin.ext (by simpa using congrArg Fin.val hab)) _
    (fun p : Fin 1024 => k (row b p) h) (fun p => v (row b p) h) (fun p => ind (near t.val p.val)) (fun i hi => ?_) d
  refine if_neg (fun hs : near t.val i.val => ?_)
  have h1 := hs.1
  have h2 := hs.2
  exact hi ⟨⟨i.val - (128 * (t.val / 128) - 256), by omega⟩, Fin.ext (by simp; omega)⟩

/-- The compressed branch of the kernel is the reference's. -/
theorem compressed_eq : ∑ c, cprob t.val (q (row b t) (head h g)) (comp k wk b h) c * comp v wv b h c d
    = ∑ c : Fin 63, cprob t.val (q (row b t) (head h g)) (rcomp k wk b h) c * rcomp v wv b h c d := by
  obtain ⟨r, e, -, z⟩ := cprob_real t.val (q (row b t) (head h g)) (comp k wk b h) (clogit_real q k wk b t h g hq hk hw)
  refine (Fin.sum_univ_castSucc (n := 63) _).trans ?_
  rw [e (Fin.last 63), z (Fin.last 63) (by simp; omega), EReal.coe_zero, zero_mul, add_zero]
  refine Finset.sum_congr rfl fun c _ => ?_
  rw [comp_eq v wv b h c d, cprob_eq t.val t.isLt (q (row b t) (head h g)) (comp k wk b h) (rcomp k wk b h) (comp_eq k wk b h) c]

/-- The kernel's function is the reference's. -/
theorem ker_eq_ref (wg : Fin 128 → Fin 3 → EReal) (bg : Fin 3 → EReal) (n : ℕ) (hn : n ≤ 1024) (htn : t.val < n) :
    kerOut n hn q k v wk wv wg bg b t h g d = refOut q k v wk wv wg bg b t h g d := by
  have h1 := selected_eq q k v wk b t h g d hq hk hw n hn htn
  have h2 := window_eq q k v b t h g d hq hk
  have h3 := compressed_eq q k v wk wv b t h g d hq hk hw
  unfold kerOut refOut
  rw [← kerScore_eq]
  refine congrArg₂ (fun x y : EReal => x + y) (congrArg₂ (fun x y : EReal => x + y) (congrArg (fun x : EReal => _ * x) h1) (congrArg (fun x : EReal => _ * x) h2)) (congrArg (fun x : EReal => _ * x) h3)
end
end Cert.Nsa
end
-- ==== Proof.Ref1.lean ====
/- The reference's compressed branch, read at an index. -/
module

public import proofs.«01_k».proof.Proof.Gen.ReferenceIdeal.Run
public import proofs.«01_k».proof.Proof.RefWhole
public import Idealize.ShloMosaic.Lib.StableHlo.ReadAt
public import Idealize.ShloMosaic.Lib.Pointwise
public import Idealize.ShloMosaic.Lib.WordCmp
public import Idealize.ShloMosaic.Lib.Routing.OpsOrder

@[expose] public section
noncomputable section
open Idealize.ShloMosaic Idealize.ShloMosaic.TcCoe Idealize.SL.Sem
namespace Cert.ReferenceIdeal.Value
open Cert.ReferenceIdeal Cert.ReferenceIdeal.Gen Cert.Nsa

/-- The pattern of minus infinity. -/
theorem bits_bot : Ideal.ofBits FTy.f32 4286578688#32 = ⊥ := by
  simp [Ideal.ofBits, Ideal.ieee]

/-- The bit one as a number. -/
theorem uitofp_one : FloatOps.uitofp (F := Ideal) FTy.f32 (1#1) = (1 : EReal) := by
  change (((1#1 : BitVec 1).toNat : ℝ) : EReal) = 1
  simp
/-- The bit zero as a number. -/
theorem uitofp_zero : FloatOps.uitofp (F := Ideal) FTy.f32 (0#1) = (0 : EReal) := by
  change (((0#1 : BitVec 1).toNat : ℝ) : EReal) = 0
  simp

/-- The windows of rows that the compression gathers, at an index. -/
theorem gather_rows (x : S4x1024x2x128.Idx → EReal) (i : IVec S63x32x1 32) (b : Fin 4) (c : Fin 63) (j : Fin 32) (h : Fin 2) (d : Fin 128)
    (n : Fin 1024) (hn : i (ix3 c j 0) = BitVec.ofNat 32 n.val) :
    Host.gather gather_S4x1024x2x128_S63x32x1_S4x63x32x2x128_034_1_n_n_1_2_412128 x i (ix5 b c j h d) = x (ix4 b n h d) := by
  unfold Host.gather
  refine congrArg x (funext fun a => Fin.ext ?_)
  change GatherDims.start _ _ i a + GatherDims.batchCoord _ _ a + GatherDims.offCoord _ _ a = _
  rw [GatherDims.batchCoord_eq_zero _ _ _ List.not_mem_nil]
  have h1 : GatherDims.start gather_S4x1024x2x128_S63x32x1_S4x63x32x2x128_034_1_n_n_1_2_412128 (ix5 b c j h d) i (1 : Fin 4) = n.val := by
    unfold GatherDims.start
    rw [dif_pos (show (1 : Fin 4) ∈ gather_S4x1024x2x128_S63x32x1_S4x63x32x2x128_034_1_n_n_1_2_412128.startIndexMap from List.mem_singleton.mpr rfl)]
    have hsi : gather_S4x1024x2x128_S63x32x1_S4x63x32x2x128_034_1_n_n_1_2_412128.siIdx (ix5 b c j h d)
        ⟨List.idxOf (1 : Fin 4) gather_S4x1024x2x128_S63x32x1_S4x63x32x2x128_034_1_n_n_1_2_412128.startIndexMap, List.idxOf_lt_length_iff.2 (List.mem_singleton.mpr rfl)⟩ = ix3 c j 0 := by
      funext e; refine Fin.ext ?_
      match e with
      | ⟨0, _⟩ => rfl
      | ⟨1, _⟩ => rfl
      | ⟨2, _⟩ => rfl
    have hw : (BitVec.ofNat 32 n.val).toInt.toNat = n.val := by
      have := n.isLt
      rw [BitVec.toInt_eq_toNat_of_lt (by simp; omega)]
      simp; omega
    rw [hsi, hn, hw]
    change min n.val 1023 = n.val
    omega
  match a with
  | ⟨0, _⟩ => exact Nat.zero_add _
  | ⟨2, _⟩ => exact Nat.zero_add _
  | ⟨3, _⟩ => exact Nat.zero_add _
  | ⟨1, _⟩ =>
    rw [GatherDims.offCoord_eq_zero _ _ _ (fun h => ((GatherDims.mem_sKept _ _).mp h).1 (List.mem_singleton.mpr rfl))]
    exact h1

/-- A last-axis maximum over the 63 compressed blocks. -/
theorem max63 (f : FVec Ideal S4x2x4x1024x63 .f32) :
    Host.reduce FloatOps.maximumf f (constant (F := Ideal) S_ .f32 0xFF800000#32) reducesTo_S4x2x4x1024x63_S4x2x4x1024_d4 h_S_
      = fun j => top fun x : Fin 63 => f (ix5 (j 0) (j 1) (j 2) (j 3) x) := by
  have hr : S4x2x4x1024x63.Reduces [4] S4x2x4x1024 := by decide
  funext j
  refine (Host.reduce_eq_fold_single _ f _ reducesTo_S4x2x4x1024x63_S4x2x4x1024_d4 hr h_S_ j).trans ?_
  have e0 : (constant (F := Ideal) S_ .f32 0xFF800000#32) (Shape.Idx.first h_S_) = (⊥ : EReal) := bits_bot
  rw [e0]
  unfold top
  refine Finset.fold_congr fun k _ => congrArg f (funext fun a => Fin.ext ?_)
  match a with
  | ⟨0, _⟩ => rfl
  | ⟨1, _⟩ => rfl
  | ⟨2, _⟩ => rfl
  | ⟨3, _⟩ => rfl
  | ⟨4, _⟩ => rfl

variable (V0 : Valuation τ sig (Elt Ideal))

/-- The queries by row, head and lane. -/
def refQ : Fin 4096 → Fin 8 → Fin 128 → EReal := fun r h d => V0 (Proc.devRef .tc main_arg0) (ix3 r h d)
/-- The keys by row, head and lane. -/
def refK : Fin 4096 → Fin 2 → Fin 128 → EReal := fun r h d => V0 (Proc.devRef .tc main_arg1) (ix3 r h d)
/-- The values by row, head and lane. -/
def refV : Fin 4096 → Fin 2 → Fin 128 → EReal := fun r h d => V0 (Proc.devRef .tc main_arg2) (ix3 r h d)
/-- The keys' compression weights. -/
def refWk : Fin 4096 → Fin 128 → EReal := fun r d => V0 (Proc.devRef .tc main_arg5) (ix2 r d)
/-- The values' compression weights. -/
def refWv : Fin 4096 → Fin 128 → EReal := fun r d => V0 (Proc.devRef .tc main_arg6) (ix2 r d)

/-- The scale is one over the root of the head size. -/
theorem v1_apply (i : S_.Idx) : res_main_v1 V0 i = scale := by
  pointwise [res_main_v1]
  have e : Ideal.ofBits FTy.f32 1124073472#32 = ((128 : ℝ) : EReal) := by
    simp [Ideal.ofBits, Ideal.ieee]; rw [← EReal.coe_mul]; norm_num
  have h2 : Real.sqrt 128 ≠ 0 := by positivity
  rw [e, Ideal.sqrt_coe, if_neg (by norm_num), Ideal.div_coe h2, one_mul, one_div]
  rfl

/-- The reference's queries by group. -/
theorem v5_apply (b : Fin 4) (t : Fin 1024) (h : Fin 2) (g : Fin 4) (d : Fin 128) : res_main_v5 V0 (ix5 b t h g d) = refQ V0 (row b t) (head h g) d := by
  pointwise [res_main_v5, res_main_v2]
  exact congrArg₂ (fun r h => V0 (Proc.devRef .tc main_arg0) (ix3 r h d)) (Fin.ext (by simp [row]; omega)) (Fin.ext (by simp [head]; omega))

/-- The reference's keys by sequence. -/
theorem v3_apply (b : Fin 4) (t : Fin 1024) (h : Fin 2) (d : Fin 128) : res_main_v3 V0 (ix4 b t h d) = refK V0 (row b t) h d := by
  pointwise [res_main_v3]
  exact congrArg (fun r => V0 (Proc.devRef .tc main_arg1) (ix3 r h d)) (Fin.ext (by simp [row]; omega))

/-- The reference's values by sequence. -/
theorem v4_apply (b : Fin 4) (t : Fin 1024) (h : Fin 2) (d : Fin 128) : res_main_v4 V0 (ix4 b t h d) = refV V0 (row b t) h d := by
  pointwise [res_main_v4]
  exact congrArg (fun r => V0 (Proc.devRef .tc main_arg2) (ix3 r h d)) (Fin.ext (by simp [row]; omega))

/-- The window's row numbers. -/
theorem v15_apply (x : Fin 63) (j : Fin 32) : res_main_v15 V0 (ix2 x j) = BitVec.ofNat 32 (16 * x.val + j.val) := by
  pointwise [res_main_v15, res_main_v9]
  have e : ∀ (x : Fin 63) (j : Fin 32), IntOp.addi (IntOp.muli (BitVec.ofNat 32 x.val) 16#32) (BitVec.ofNat 32 j.val) = BitVec.ofNat 32 (16 * x.val + j.val) := by
    intro x j
    apply BitVec.eq_of_toNat_eq
    simp [IntOp.addi, IntOp.muli]
    omega
  exact e x j

/-- Which compressed blocks are complete at a position. -/
theorem v48_apply (t : Fin 1024) (x : Fin 63) : res_main_v48 V0 (ix2 t x) = BitVec.ofBool (decide (16 * x.val + 31 ≤ t.val)) := by
  pointwise [res_main_v48, res_main_v9, res_main_v6]
  have e : IntOp.subi (IntOp.addi (IntOp.muli (BitVec.ofNat 32 x.val) 16#32) 32#32) 1#32 = BitVec.ofNat 32 (16 * x.val + 31) := by
    revert x; decide +kernel
  rw [e]
  exact WordCmp.cmpi_sle_ofNat (by omega) (by omega)

/-- The window's row numbers after the wrap of negative ones. -/
theorem wrap_rows (x : Fin 63) (j : Fin 32) : broadcastInDim S63x32x1 ![0, 1] bcast_S63x32_S63x32x1_0_1
                    (select
                      (cmpi CmpIPredicate.slt (res_main_v15 V0)
                        (broadcastInDim S63x32 ![] bcast_S_S63x32 (constantI S_ 32 0#32)))
                      (addi (res_main_v15 V0) (broadcastInDim S63x32 ![] bcast_S_S63x32 (constantI S_ 32 1024#32)))
                      (res_main_v15 V0)) (ix3 x j 0) = BitVec.ofNat 32 (16 * x.val + j.val) := by
  pointwise
  rw [v15_apply]
  rw [show IntOp.cmpi .slt (BitVec.ofNat 32 (16 * x.val + j.val)) 0#32 = 0#1 from
    (WordCmp.cmpi_slt_ofNat (b := 0) (by omega) (by omega)).trans (by simp)]
  rfl

/-- The masked compressed logits. -/
theorem v50_apply (b : Fin 4) (h : Fin 2) (g : Fin 4) (t : Fin 1024) (x : Fin 63) : res_main_v50 V0 (ix5 b h g t x) =
    clog t.val (refQ V0 (row b t) (head h g)) (rcomp (refK V0) (refWk V0) b h) x := by
  pointwise [res_main_v50]
  rw [v48_apply, v1_apply]
  unfold clog logit
  have hs : ∀ x_2 : Fin 4096, Host.gather gather_S4x1024x2x128_S63x32x1_S4x63x32x2x128_034_1_n_n_1_2_412128 (res_main_v3 V0)
                  (broadcastInDim S63x32x1 ![0, 1] bcast_S63x32_S63x32x1_0_1
                    (select
                      (cmpi CmpIPredicate.slt (res_main_v15 V0)
                        (broadcastInDim S63x32 ![] bcast_S_S63x32 (constantI S_ 32 0#32)))
                      (addi (res_main_v15 V0) (broadcastInDim S63x32 ![] bcast_S_S63x32 (constantI S_ 32 1024#32)))
                      (res_main_v15 V0)))
                  (ix5 b x ⟨x_2.val / 128, by omega⟩ h ⟨x_2.val % 128, by omega⟩) = refK V0 (row b ⟨16 * x.val + x_2.val / 128, by omega⟩) h ⟨x_2.val % 128, by omega⟩ := by
    intro e
    exact (gather_rows _ _ b x _ h _ ⟨16 * x.val + e.val / 128, by omega⟩ (wrap_rows V0 x ⟨e.val / 128, by omega⟩)).trans (v3_apply V0 b _ h _)
  simp only [hs, v5_apply]
  by_cases hc : 16 * x.val + 31 ≤ t.val
  · rw [if_pos hc, decide_eq_true hc]
    refine congrArg (fun z : EReal => z * scale) (Finset.sum_congr rfl fun d _ => ?_)
    rw [mul_comm]
    rfl
  · rw [if_neg hc, decide_eq_false hc]
    exact bits_bot

theorem v57_apply (b : Fin 4) (h : Fin 2) (g : Fin 4) (t : Fin 1024) (x : Fin 63) : res_main_v57 V0 (ix5 b h g t x) =
    Ideal.exp (clog t.val (refQ V0 (row b t) (head h g)) (rcomp (refK V0) (refWk V0) b h) x - top (clog t.val (refQ V0 (row b t) (head h g)) (rcomp (refK V0) (refWk V0) b h))) := by
  unfold res_main_v57
  rw [max63]
  pointwise
  rw [bits_bot, max_eq_right bot_le]
  simp only [v50_apply]

/-- Is any compressed block complete at the position. -/
theorem any_apply (t : Fin 1024) : Finset.fold IntOp.ori (0#1) (res_main_v48 V0) {i | reducesTo_S1024x63_S1024_d1.drop i = ix1 t} = BitVec.ofBool (decide (31 ≤ t.val)) := by
  have hr : S1024x63.Reduces [1] S1024 := by decide
  rw [Shape.ReducesTo.drop_eq_drop reducesTo_S1024x63_S1024_d1 hr]
  refine (hr.fold_filter_drop_single IntOp.ori (0#1) (res_main_v48 V0) (ix1 t)).trans ?_
  have hl : ∀ x : Fin 63, hr.lift (ix1 t) x = ix2 t x := by
    intro x
    refine funext fun a => Fin.ext ?_
    match a with
    | ⟨0, _⟩ => rfl
    | ⟨1, _⟩ => rfl
  have key : Finset.fold IntOp.ori (0#1) (res_main_v48 V0 ∘ hr.lift (ix1 t)) (Finset.univ : Finset (Fin (S1024x63.size 1))) = 1#1 ↔ 31 ≤ t.val := by
    rw [Routing.fold_ori]
    have hx : ∀ x : Fin 63, (res_main_v48 V0 ∘ hr.lift (ix1 t)) x = BitVec.ofBool (decide (16 * x.val + 31 ≤ t.val)) := fun x => by
      exact (congrArg (res_main_v48 V0) (hl x)).trans (v48_apply V0 t x)
    constructor
    · rintro ⟨x, -, h⟩
      rw [hx x] at h
      by_contra hc
      rw [decide_eq_false (by omega)] at h
      exact absurd h (by decide)
    · intro h
      refine ⟨(0 : Fin 63), Finset.mem_univ _, ?_⟩
      rw [hx 0, decide_eq_true (by simpa using h)]
      rfl
  change Finset.fold IntOp.ori (0#1) (res_main_v48 V0 ∘ hr.lift (ix1 t)) (Finset.univ : Finset (Fin (S1024x63.size 1))) = _
  rcases BitVec.eq_zero_or_eq_one (Finset.fold IntOp.ori (0#1) (res_main_v48 V0 ∘ hr.lift (ix1 t)) (Finset.univ : Finset (Fin (S1024x63.size 1)))) with hz | ho
  · have : ¬ 31 ≤ t.val := fun h => by
      rw [key.2 h] at hz; exact absurd hz (by decide)
    rw [hz, decide_eq_false this]; rfl
  · rw [ho, decide_eq_true (key.1 ho)]; rfl

theorem v66_apply (b : Fin 4) (h : Fin 2) (g : Fin 4) (t : Fin 1024) (x : Fin 63) : res_main_v66 V0 (ix5 b h g t x) =
    cprob t.val (refQ V0 (row b t) (head h g)) (rcomp (refK V0) (refWk V0) b h) x := by
  pointwise [res_main_v66]
  rw [any_apply]
  simp only [v57_apply]
  unfold cprob soft
  refine congrArg₂ (fun y z : EReal => y * z) rfl ?_
  by_cases ht : 31 ≤ t.val
  · rw [if_pos ht, decide_eq_true ht]; exact uitofp_one
  · rw [if_neg ht, decide_eq_false ht]; exact uitofp_zero
end Cert.ReferenceIdeal.Value
end
-- ==== Proof.Ref2.lean ====
/- The reference's block scores, read at an index. -/
module

public import proofs.«01_k».proof.Proof.Ref1

@[expose] public section
noncomputable section
open Idealize.ShloMosaic Idealize.ShloMosaic.TcCoe Idealize.SL.Sem
namespace Cert.ReferenceIdeal.Value
open Cert.ReferenceIdeal Cert.ReferenceIdeal.Gen Cert.Nsa

/-- The five compressed probabilities that the pooling gathers for each selection block, at an index. -/
theorem gather_blocks (x : S4x2x1024x63.Idx → EReal) (i : IVec S16x5x1 32) (b : Fin 4) (h : Fin 2) (t : Fin 1024) (m : Fin 16) (j : Fin 5)
    (n : Fin 63) (hn : i (ix3 m j 0) = BitVec.ofNat 32 n.val) :
    Host.gather gather_S4x2x1024x63_S16x5x1_S4x2x1024x16x5_012_3_n_n_3_2_4210241 x i (ix5 b h t m j) = x (ix4 b h t n) := by
  unfold Host.gather
  refine congrArg x (funext fun a => Fin.ext ?_)
  change GatherDims.start _ _ i a + GatherDims.batchCoord _ _ a + GatherDims.offCoord _ _ a = _
  rw [GatherDims.batchCoord_eq_zero _ _ _ List.not_mem_nil]
  have h1 : GatherDims.start gather_S4x2x1024x63_S16x5x1_S4x2x1024x16x5_012_3_n_n_3_2_4210241 (ix5 b h t m j) i (3 : Fin 4) = n.val := by
    unfold GatherDims.start
    rw [dif_pos (show (3 : Fin 4) ∈ gather_S4x2x1024x63_S16x5x1_S4x2x1024x16x5_012_3_n_n_3_2_4210241.startIndexMap from List.mem_singleton.mpr rfl)]
    have hsi : gather_S4x2x1024x63_S16x5x1_S4x2x1024x16x5_012_3_n_n_3_2_4210241.siIdx (ix5 b h t m j)
        ⟨List.idxOf (3 : Fin 4) gather_S4x2x1024x63_S16x5x1_S4x2x1024x16x5_012_3_n_n_3_2_4210241.startIndexMap, List.idxOf_lt_length_iff.2 (List.mem_singleton.mpr rfl)⟩ = ix3 m j 0 := by
      funext e; refine Fin.ext ?_
      match e with
      | ⟨0, _⟩ => rfl
      | ⟨1, _⟩ => rfl
      | ⟨2, _⟩ => rfl
    have hw : (BitVec.ofNat 32 n.val).toInt.toNat = n.val := by
      have := n.isLt
      rw [BitVec.toInt_eq_toNat_of_lt (by simp; omega)]
      simp; omega
    rw [hsi, hn, hw]
    change min n.val 62 = n.val
    omega
  match a with
  | ⟨0, _⟩ => exact Nat.zero_add _
  | ⟨1, _⟩ => exact Nat.zero_add _
  | ⟨2, _⟩ => exact Nat.zero_add _
  | ⟨3, _⟩ =>
    rw [GatherDims.offCoord_eq_zero _ _ _ (fun h => ((GatherDims.mem_sKept _ _).mp h).1 (List.mem_singleton.mpr rfl))]
    exact h1

variable (V0 : Valuation τ sig (Elt Ideal))

/-- The compressed blocks' numbers of a selection block. -/
theorem v79_apply (m : Fin 16) (j : Fin 5) : res_main_v79 V0 (ix2 m j) = BitVec.ofNat 32 (4 * m.val + j.val) := by
  pointwise [res_main_v79]
  have e : ∀ (x : Fin 16) (j : Fin 5), IntOp.addi (IntOp.muli (BitVec.ofNat 32 x.val) 4#32) (BitVec.ofNat 32 j.val) = BitVec.ofNat 32 (4 * x.val + j.val) := by
    intro x j
    apply BitVec.eq_of_toNat_eq
    simp [IntOp.addi, IntOp.muli]
    omega
  exact e m j

/-- Which of them exist. -/
theorem v81_apply (m : Fin 16) (j : Fin 5) : res_main_v81 V0 (ix2 m j) = BitVec.ofBool (decide (4 * m.val + j.val < 63)) := by
  pointwise [res_main_v81]
  rw [v79_apply]
  exact WordCmp.cmpi_slt_ofNat (b := 63) (by omega) (by omega)

/-- The numbers cut off at the last block. -/
theorem v83_apply (m : Fin 16) (j : Fin 5) : res_main_v83 V0 (ix2 m j) = BitVec.ofNat 32 (min (4 * m.val + j.val) 62) := by
  pointwise [res_main_v83]
  rw [v79_apply]
  have e : ∀ (x : Fin 16) (j : Fin 5), IntOp.minsi (BitVec.ofNat 32 (4 * x.val + j.val)) 62#32 = BitVec.ofNat 32 (min (4 * x.val + j.val) 62) := by
    decide +kernel
  exact e m j

/-- The numbers after the wrap of negative ones. -/
theorem wrap_blocks (m : Fin 16) (j : Fin 5) : broadcastInDim S16x5x1 ![0, 1] bcast_S16x5_S16x5x1_0_1 (select (cmpi .slt (res_main_v83 V0) (broadcastInDim S16x5 ![] bcast_S_S16x5 (constantI S_ 32 0#32))) (addi (res_main_v83 V0) (broadcastInDim S16x5 ![] bcast_S_S16x5 (constantI S_ 32 63#32))) (res_main_v83 V0)) (ix3 m j 0)
    = BitVec.ofNat 32 (min (4 * m.val + j.val) 62) := by
  pointwise
  rw [v83_apply]
  rw [show IntOp.cmpi .slt (BitVec.ofNat 32 (min (4 * m.val + j.val) 62)) 0#32 = 0#1 from
    (WordCmp.cmpi_slt_ofNat (b := 0) (by omega) (by omega)).trans (by simp)]
  rfl

/-- A bit as a number. -/
theorem uitofp_bit (p : Prop) [Decidable p] : FloatOps.uitofp (F := Ideal) FTy.f32 (BitVec.ofBool (decide p)) = ind p := by
  unfold ind
  by_cases h : p
  · rw [if_pos h, decide_eq_true h]; exact uitofp_one
  · rw [if_neg h, decide_eq_false h]; exact uitofp_zero

/-- How many compressed blocks overlap a selection block, as a function of it. -/
theorem count_blocks (f : IVec S16x5 32) (hf : ∀ (m : Fin 16) (j : Fin 5), f (ix2 m j) = BitVec.setWidth 32 (BitVec.ofBool (decide (4 * m.val + j.val < 63)))) :
    Host.reduce IntOp.addi f (constantI S_ 32 0#32) reducesTo_S16x5_S16_d1 h_S_ = fun i => BitVec.ofNat 32 (if (i 0).val = 15 then 3 else 5) := by
  have hr : S16x5.Reduces [1] S16 := by decide
  funext i
  refine (Host.reduce_eq_fold_single IntOp.addi f _ reducesTo_S16x5_S16_d1 hr h_S_ i).trans ?_
  have hl : ∀ (x : Fin 5), hr.lift i x = ix2 (i 0) x := by
    intro x
    refine funext fun a => Fin.ext ?_
    match a with
    | ⟨0, _⟩ => rfl
    | ⟨1, _⟩ => rfl
  have e : ∀ m : Fin 16, Finset.fold IntOp.addi (0#32) (fun j : Fin 5 => BitVec.setWidth 32 (BitVec.ofBool (decide (4 * m.val + j.val < 63)))) Finset.univ = BitVec.ofNat 32 (if m.val = 15 then 3 else 5) := by
    decide +kernel
  refine Eq.trans (Finset.fold_congr fun x _ => ?_) (e (i 0))
  exact (congrArg f (hl x)).trans (hf (i 0) x)

/-- The block scores. -/
theorem v101_apply (b : Fin 4) (h : Fin 2) (t : Fin 1024) (m : Fin 16) : res_main_v101 V0 (ix4 b h t m) =
    rpool (fun x => ∑ g : Fin 4, cprob t.val (refQ V0 (row b t) (head h g)) (rcomp (refK V0) (refWk V0) b h) x) m := by
  unfold res_main_v101
  rw [count_blocks _ (fun m j => by pointwise; rw [v81_apply])]
  pointwise
  unfold rpool
  refine congrArg₂ Ideal.div (Finset.sum_congr rfl fun j _ => congrArg₂ (fun a b : EReal => a * b) ?_ ?_) ?_
  · refine (gather_blocks _ _ b h t m j ⟨min (4 * m.val + j.val) 62, by omega⟩ (wrap_blocks V0 m j)).trans ?_
    pointwise
    simp only [v66_apply]
  · rw [v81_apply]; exact uitofp_bit _
  · by_cases hm : m.val = 15 <;> simp [hm, FloatOps.sitofp]
end Cert.ReferenceIdeal.Value
end
-- ==== Proof.TopK.lean ====
/- The first eight of sixteen scores in a stable sort, greatest first, are those of rank below eight. -/
module

public import proofs.«01_k».proof.Proof.Spec
public import Idealize.ShloMosaic.Lib.SortPrefix

@[expose] public section
noncomputable section
open Idealize.ShloMosaic
namespace Cert.Nsa

/-- A score comes before another when it is greater, or equal and at a smaller index. -/
def ahead (p : Fin 16 → EReal) (k k' : Fin 16) : Bool := decide (p k' < p k) || (decide (p k = p k') && decide (k < k'))

/-- That order is strict and total. -/
theorem ahead_total (p : Fin 16 → EReal) : StrictTotalBefore (ahead p) :=
  StrictTotalBefore.of_key_then_position (fun a b : EReal => decide (b < a)) p (fun a => by simp)
    (fun a b c hab hbc => by simp only [decide_eq_true_eq] at *; exact hbc.trans hab)
    (fun a b => by simp only [decide_eq_true_eq]; rcases lt_trichotomy a b with h | h | h
                   · exact Or.inr (Or.inr h)
                   · exact Or.inr (Or.inl h)
                   · exact Or.inl h)

/-- On increasing positions the stable sort by the scores alone is the sort by that order. -/
theorem stable_eq (p : Fin 16 → EReal) (l : List (Fin 16)) (hl : l.Pairwise (· < ·)) :
    stableSort (fun k k' => decide (p k' < p k)) l = stableSort (ahead p) l := by
  induction l with
  | nil => rfl
  | cons a l ih =>
    rw [List.pairwise_cons] at hl
    unfold stableSort
    rw [ih hl.2]
    refine insertBefore_congr _ _ a _ fun b hb => ?_
    have hab := hl.1 b ((perm_stableSort _ l).mem_iff.mp hb)
    have : decide (b < a) = false := decide_eq_false (not_lt_of_gt hab)
    unfold ahead
    rw [this, Bool.and_false, Bool.or_false]

/-- Two sorts with equal lists of positions select the same positions. -/
theorem sortedFrom_of_positions {n : ℕ} (R R' : Fin n → Fin n → Bool) (h : sortPositions n R = sortPositions n R') : sortedFrom R = sortedFrom R' := by
  funext k
  unfold sortedFrom
  rw [List.get_of_eq h]
  congr 1

/-- The two sorts select the same positions. -/
theorem sortedFrom_scores (p : Fin 16 → EReal) : sortedFrom (fun k k' => decide (p k' < p k)) = sortedFrom (ahead p) :=
  sortedFrom_of_positions _ _ (stable_eq p (List.finRange 16) (List.pairwise_lt_finRange 16))

/-- A block is among the first eight of the sort exactly when fewer than eight come before it. -/
theorem first_eight (p : Fin 16 → EReal) (m : Fin 16) :
    (∃ j : Fin 8, sortedFrom (fun k k' => decide (p k' < p k)) (j.castLE (by omega)) = m) ↔ rank p m < 8 := by
  rw [sortedFrom_scores]
  have hB := ahead_total p
  have hinj := sortedFrom_injective (ahead p)
  have hno := fun i j hij => sortedFrom_noInversion (ahead p) (ahead p) (fun a b h => hB.asymm a b h) (fun _ _ h => h) hB.negTrans i j hij
  have hlt : ∀ i j, ahead p (sortedFrom (ahead p) i) (sortedFrom (ahead p) j) = true ↔ i < j := by
    intro i j
    constructor
    · intro h
      rcases lt_trichotomy i j with h' | h' | h'
      · exact h'
      · subst h'; rw [hB.irrefl] at h; exact absurd h (by decide)
      · rw [hno j i h'] at h; exact absurd h (by decide)
    · intro h
      rcases hB.total _ _ (fun e => h.ne (hinj e)) with h' | h'
      · exact h'
      · rw [hno i j h] at h'; exact absurd h' (by decide)
  obtain ⟨k, rfl⟩ := sortedFrom_surjective (ahead p) m
  have hrank : rank p (sortedFrom (ahead p) k) = k.val := by
    have : (Finset.univ.filter fun m' => p (sortedFrom (ahead p) k) < p m' ∨ (p m' = p (sortedFrom (ahead p) k) ∧ m' < sortedFrom (ahead p) k))
        = (Finset.Iio k).image (sortedFrom (ahead p)) := by
      ext m'
      obtain ⟨i, rfl⟩ := sortedFrom_surjective (ahead p) m'
      rw [Finset.mem_filter, Finset.mem_image]
      have e := hlt i k
      unfold ahead at e
      simp only [Bool.or_eq_true, Bool.and_eq_true, decide_eq_true_eq] at e
      constructor
      · rintro ⟨-, h⟩
        exact ⟨i, Finset.mem_Iio.2 (e.1 h), rfl⟩
      · rintro ⟨i', hi', h⟩
        have := hinj h
        subst this
        exact ⟨Finset.mem_univ _, e.2 (Finset.mem_Iio.1 hi')⟩
    unfold rank
    rw [this, Finset.card_image_of_injective _ hinj, Fin.card_Iio]
  rw [hrank]
  constructor
  · rintro ⟨j, hj⟩
    have := hinj hj
    rw [← this]
    exact j.isLt
  · intro h
    exact ⟨⟨k.val, h⟩, rfl⟩
end Cert.Nsa
end
-- ==== Proof.Ref3.lean ====
/- The reference's selected and window branches, read at an index. -/
module

public import proofs.«01_k».proof.Proof.Ref2
public import proofs.«01_k».proof.Proof.TopK

@[expose] public section
noncomputable section
open Idealize.ShloMosaic Idealize.ShloMosaic.TcCoe Idealize.SL.Sem
namespace Cert.ReferenceIdeal.Value
open Cert.ReferenceIdeal Cert.ReferenceIdeal.Gen Cert.Nsa

/-- The last-axis maximum over the keys. -/
theorem max1024 (f : FVec Ideal S4x2x4x1024x1024 .f32) :
    Host.reduce FloatOps.maximumf f (constant (F := Ideal) S_ .f32 0xFF800000#32) reducesTo_S4x2x4x1024x1024_S4x2x4x1024_d4 h_S_
      = fun j => top fun x : Fin 1024 => f (ix5 (j 0) (j 1) (j 2) (j 3) x) := by
  have hr : S4x2x4x1024x1024.Reduces [4] S4x2x4x1024 := by decide
  funext j
  refine (Host.reduce_eq_fold_single _ f _ reducesTo_S4x2x4x1024x1024_S4x2x4x1024_d4 hr h_S_ j).trans ?_
  have e0 : (constant (F := Ideal) S_ .f32 0xFF800000#32) (Shape.Idx.first h_S_) = (⊥ : EReal) := bits_bot
  rw [e0]
  unfold top
  refine Finset.fold_congr fun k _ => congrArg f (funext fun a => Fin.ext ?_)
  match a with
  | ⟨0, _⟩ => rfl
  | ⟨1, _⟩ => rfl
  | ⟨2, _⟩ => rfl
  | ⟨3, _⟩ => rfl
  | ⟨4, _⟩ => rfl

/-- A bit or-ed over the eight selected blocks. -/
theorem any8 (f : IVec S4x2x1024x8x1024 1) :
    Host.reduce IntOp.ori f (constantI S_ 1 0#1) reducesTo_S4x2x1024x8x1024_S4x2x1024x1024_d3 h_S_
      = fun i => Finset.fold IntOp.ori (0#1) (fun j : Fin 8 => f (ix5 (i 0) (i 1) (i 2) j (i 3))) Finset.univ := by
  have hr : S4x2x1024x8x1024.Reduces [3] S4x2x1024x1024 := by decide
  funext j
  refine (Host.reduce_eq_fold_single _ f _ reducesTo_S4x2x1024x8x1024_S4x2x1024x1024_d3 hr h_S_ j).trans ?_
  refine Finset.fold_congr fun k _ => congrArg f (funext fun a => Fin.ext ?_)
  match a with
  | ⟨0, _⟩ => rfl
  | ⟨1, _⟩ => rfl
  | ⟨2, _⟩ => rfl
  | ⟨3, _⟩ => rfl
  | ⟨4, _⟩ => rfl

/-- The indices of the eight greatest scores, at an index. -/
theorem topK_read (x : FVec Ideal S4x2x1024x16 .f32) : (Host.topK S4x2x1024x8 3 (FloatOps.cmpfTotal (F := Ideal) .gt) x sliceFits_S4x2x1024x16_S4x2x1024x8).2
    = fun i => BitVec.ofNat 32 (sortedFrom (fun k k' : Fin 16 => decide (x (ix4 (i 0) (i 1) (i 2) k') < x (ix4 (i 0) (i 1) (i 2) k))) (Fin.castLE (n := 8) (by omega) (i 3))).val := by
  funext i
  have hc : ∀ a c : EReal, (FloatOps.cmpfTotal (F := Ideal) (φ := .f32) .gt a c == 1#1) = decide (c < a) := by
    intro a c
    change (BitVec.ofBool (decide (a > c)) == 1#1) = decide (c < a)
    by_cases h : c < a
    · rw [decide_eq_true h]; rfl
    · rw [decide_eq_false h]; rfl
  have ha : ∀ (j : S4x2x1024x16.Idx) (k : Fin 16), (j.along (3 : Fin 4) k : S4x2x1024x16.Idx) = ix4 (j 0) (j 1) (j 2) k := by
    intro j k
    refine funext fun a => ?_
    match a with
    | ⟨0, _⟩ => rfl
    | ⟨1, _⟩ => rfl
    | ⟨2, _⟩ => rfl
    | ⟨3, _⟩ => rfl
  have key : ∀ J : S4x2x1024x16.Idx, BitVec.ofNat 32 ((J.along (3 : Fin 4) (sortedFrom (fun k k' : Fin 16 => FloatOps.cmpfTotal (F := Ideal) (φ := .f32) .gt (x (J.along (3 : Fin 4) k)) (x (J.along (3 : Fin 4) k')) == 1#1) (J 3))) 3).val
      = BitVec.ofNat 32 (sortedFrom (fun k k' : Fin 16 => decide (x (ix4 (J 0) (J 1) (J 2) k') < x (ix4 (J 0) (J 1) (J 2) k))) (J 3)).val := by
    intro J
    have hf : (fun k k' : Fin 16 => FloatOps.cmpfTotal (F := Ideal) (φ := .f32) .gt (x (J.along (3 : Fin 4) k)) (x (J.along (3 : Fin 4) k')) == 1#1)
        = fun k k' : Fin 16 => decide (x (ix4 (J 0) (J 1) (J 2) k') < x (ix4 (J 0) (J 1) (J 2) k)) := by
      funext k k'
      rw [ha J k, ha J k']
      exact hc _ _
    refine Eq.trans ?_ (congrArg (fun f : Fin 16 → Fin 16 → Bool => BitVec.ofNat 32 (sortedFrom f (J 3)).val) hf)
    have hk : ∀ s : Fin 16, BitVec.ofNat 32 ((J.along (3 : Fin 4) s) 3).val = BitVec.ofNat 32 s.val :=
      fun s => congrArg (fun K : S4x2x1024x16.Idx => BitVec.ofNat 32 (K 3).val) (ha J s)
    exact hk _
  have sl : ∀ f : IVec S4x2x1024x16 32, extractStridedSlice S4x2x1024x8 (fun _ => 0) f sliceFits_S4x2x1024x16_S4x2x1024x8 i = f (ix4 (i 0) (i 1) (i 2) (Fin.castLE (n := 8) (by omega) (i 3))) := by
    intro f
    refine congrArg f (funext fun a => Fin.ext ?_)
    match a with
    | ⟨0, _⟩ => exact Nat.zero_add _
    | ⟨1, _⟩ => exact Nat.zero_add _
    | ⟨2, _⟩ => exact Nat.zero_add _
    | ⟨3, _⟩ => exact Nat.zero_add _
  have srt : ∀ (J : S4x2x1024x16.Idx) (cmp : EReal × BitVec 32 → EReal × BitVec 32 → BitVec 1) (y : IVec S4x2x1024x16 32),
      (Host.sort2 S4x2x1024x16 3 cmp x y).2 J = y (J.along (3 : Fin 4) (sortedFrom (fun k k' : Fin 16 => cmp (x (J.along (3 : Fin 4) k), y (J.along (3 : Fin 4) k)) (x (J.along (3 : Fin 4) k'), y (J.along (3 : Fin 4) k')) == 1#1) (J 3))) := by
    intro J cmp y
    unfold Host.sort2
    rw [dif_pos (show 3 < S4x2x1024x16.rank by decide)]
    rfl
  change extractStridedSlice S4x2x1024x8 (fun _ => 0) (Host.sort2 S4x2x1024x16 3 (fun l r => FloatOps.cmpfTotal (F := Ideal) (φ := .f32) .gt l.1 r.1) x
    (fun i => if hd : 3 < S4x2x1024x16.rank then iotaInDim S4x2x1024x16 32 ⟨3, hd⟩ i else 0#32)).2 sliceFits_S4x2x1024x16_S4x2x1024x8 i = _
  have all : ∀ J : S4x2x1024x16.Idx, (Host.sort2 S4x2x1024x16 3 (fun l r => FloatOps.cmpfTotal (F := Ideal) (φ := .f32) .gt l.1 r.1) x
      (fun i => if hd : 3 < S4x2x1024x16.rank then iotaInDim S4x2x1024x16 32 ⟨3, hd⟩ i else 0#32)).2 J
      = BitVec.ofNat 32 (sortedFrom (fun k k' : Fin 16 => decide (x (ix4 (J 0) (J 1) (J 2) k') < x (ix4 (J 0) (J 1) (J 2) k))) (J 3)).val := by
    intro J
    refine (srt J _ _).trans ?_
    rw [dif_pos (show 3 < S4x2x1024x16.rank by decide)]
    exact key J
  rw [sl, all]
  refine congrArg₂ (fun (f : Fin 16 → Fin 16 → Bool) (s : Fin 16) => BitVec.ofNat 32 (sortedFrom f s).val) ?_ ?_
  · rfl
  · rfl

variable (V0 : Valuation τ sig (Elt Ideal))

/-- The block of a key, at an index. -/
theorem div64_at (p : Fin 1024) : (select (andi (cmpi .ne (signi (res_main_v6 V0)) (broadcastInDim S1024 ![] bcast_S_S1024 (signi (res_main_call1_v0 V0)))) (cmpi .ne (Host.remsi (res_main_v6 V0) (broadcastInDim S1024 ![] bcast_S_S1024 (res_main_call1_v0 V0))) (broadcastInDim S1024 ![] bcast_S_S1024 (constantI S_ 32 0#32)))) (subi (res_main_call1_v2 V0) (broadcastInDim S1024 ![] bcast_S_S1024 (constantI S_ 32 1#32))) (res_main_call1_v2 V0)) (ix1 p) = BitVec.ofNat 32 (p.val / 64) := by
  pointwise [res_main_call1_v2, res_main_call1_v0, res_main_v6]
  revert p
  decide +kernel

/-- The blocks of the keys. -/
theorem div64 : (select (andi (cmpi .ne (signi (res_main_v6 V0)) (broadcastInDim S1024 ![] bcast_S_S1024 (signi (res_main_call1_v0 V0)))) (cmpi .ne (Host.remsi (res_main_v6 V0) (broadcastInDim S1024 ![] bcast_S_S1024 (res_main_call1_v0 V0))) (broadcastInDim S1024 ![] bcast_S_S1024 (constantI S_ 32 0#32)))) (subi (res_main_call1_v2 V0) (broadcastInDim S1024 ![] bcast_S_S1024 (constantI S_ 32 1#32))) (res_main_call1_v2 V0)) = fun i => BitVec.ofNat 32 ((i 0).val / 64) := by
  funext i
  have e : i = ix1 (i 0) := funext fun a => by match a with | ⟨0, _⟩ => rfl
  rw [e]
  exact div64_at V0 (i 0)

/-- The causal mask. -/
theorem v123_apply (t p : Fin 1024) : res_main_v123 V0 (ix2 t p) = BitVec.ofBool (decide (p.val ≤ t.val)) := by
  pointwise [res_main_v123, res_main_v6]
  exact WordCmp.cmpi_sle_ofNat (by omega) (by omega)

/-- The logits. -/
theorem v138_apply (b : Fin 4) (h : Fin 2) (g : Fin 4) (t p : Fin 1024) : res_main_v138 V0 (ix5 b h g t p)
    = logit (refQ V0 (row b t) (head h g)) (refK V0 (row b p) h) := by
  pointwise [res_main_v138]
  rw [v1_apply]
  simp only [v5_apply, v3_apply]
  refine congrArg (fun z : EReal => z * scale) (Finset.sum_congr rfl fun d _ => ?_)
  exact mul_comm _ _

/-- The gates. -/
theorem v111_apply (b : Fin 4) (t : Fin 1024) (h : Fin 2) (g : Fin 4) (j : Fin 3) : res_main_v111 V0 (ix4 b t (head h g) j) =
    gate (refQ V0 (row b t) (head h g)) (fun d j => V0 (Proc.devRef .tc main_arg7) (ix2 d j)) (fun j => V0 (Proc.devRef .tc main_arg8) (ix1 j)) j := by
  pointwise [res_main_v111, res_main_v2]
  exact congrArg (fun r => gate (fun x => V0 (Proc.devRef .tc main_arg0) (ix3 r (head h g) x)) (fun d j => V0 (Proc.devRef .tc main_arg7) (ix2 d j)) (fun j => V0 (Proc.devRef .tc main_arg8) (ix1 j)) j)
    (Fin.ext (by simp [row]; omega) : (⟨b.val * 1024 + t.val, by omega⟩ : Fin 4096) = row b t)

/-- The selected branch's masked logits. -/
theorem v140_apply (b : Fin 4) (h : Fin 2) (g : Fin 4) (t p : Fin 1024) : res_main_v140 V0 (ix5 b h g t p)
    = if seen (rpool (fun x => ∑ g : Fin 4, cprob t.val (refQ V0 (row b t) (head h g)) (rcomp (refK V0) (refWk V0) b h) x)) t.val p.val then
        logit (refQ V0 (row b t) (head h g)) (refK V0 (row b p) h) else ⊥ := by
  unfold res_main_v140
  rw [topK_read, any8, div64]
  pointwise
  simp only [v101_apply, v138_apply, v123_apply]
  generalize rpool (fun x => ∑ g : Fin 4, cprob t.val (refQ V0 (row b t) (head h g)) (rcomp (refK V0) (refWk V0) b h) x) = P
  generalize logit (refQ V0 (row b t) (head h g)) (refK V0 (row b p) h) = L
  have any : Finset.fold IntOp.ori (0#1) (fun x : Fin 8 => IntOp.cmpi .eq (BitVec.ofNat 32 (sortedFrom (fun k k' : Fin 16 => decide (P k' < P k)) (Fin.castLE (by omega) x)).val) (BitVec.ofNat 32 (p.val / 64))) Finset.univ = 1#1
      ↔ ∃ m : Fin 16, m.val = p.val / 64 ∧ rank P m < 8 := by
    rw [Routing.fold_ori]
    constructor
    · rintro ⟨j, -, hj⟩
      have hv : (sortedFrom (fun k k' : Fin 16 => decide (P k' < P k)) (Fin.castLE (by omega) j)).val = p.val / 64 := by
        rw [WordCmp.cmpi_eq_ofNat (by omega) (by omega)] at hj
        by_contra hne
        rw [decide_eq_false hne] at hj
        exact absurd hj (by decide)
      exact ⟨_, hv, (first_eight P _).1 ⟨j, rfl⟩⟩
    · rintro ⟨m, hm, hr⟩
      obtain ⟨j, hj⟩ := (first_eight P m).2 hr
      refine ⟨j, Finset.mem_univ _, ?_⟩
      rw [hj, hm, WordCmp.cmpi_eq_ofNat (by omega) (by omega), decide_eq_true rfl]
      rfl
  have e0 : (id (constant (F := Ideal) S_ FTy.f32 4286578688#32) ix0 : EReal) = ⊥ := bits_bot
  by_cases hs : ∃ m : Fin 16, m.val = p.val / 64 ∧ rank P m < 8
  · rw [any.2 hs]
    by_cases hp : p.val ≤ t.val
    · rw [if_pos (show seen P t.val p.val from ⟨hs, hp⟩), decide_eq_true hp]
      rfl
    · rw [if_neg (show ¬ seen P t.val p.val from fun h => hp h.2), decide_eq_false hp]
      exact e0
  · rw [if_neg (show ¬ seen P t.val p.val from fun h => hs h.1), (BitVec.eq_zero_or_eq_one _).resolve_right (fun h => hs (any.1 h))]
    refine Eq.trans ?_ e0
    by_cases hp : p.val ≤ t.val
    · rw [decide_eq_true hp]; rfl
    · rw [decide_eq_false hp]; rfl

/-- The window branch's masked logits. -/
theorem v156_apply (b : Fin 4) (h : Fin 2) (g : Fin 4) (t p : Fin 1024) : res_main_v156 V0 (ix5 b h g t p)
    = if near t.val p.val then
        logit (refQ V0 (row b t) (head h g)) (refK V0 (row b p) h) else ⊥ := by
  pointwise [res_main_v156, res_main_v6]
  simp only [v138_apply, v123_apply]
  have e0 : (id (constant (F := Ideal) S_ FTy.f32 4286578688#32) ix0 : EReal) = ⊥ := bits_bot
  by_cases hp : p.val ≤ t.val
  · have hsub : IntOp.subi (BitVec.ofNat 32 t.val) (BitVec.ofNat 32 p.val) = BitVec.ofNat 32 (t.val - p.val) := by
      apply BitVec.eq_of_toNat_eq
      simp [IntOp.subi]
      omega
    rw [hsub, WordCmp.cmpi_slt_ofNat (b := 256) (by omega) (by omega), decide_eq_true hp]
    by_cases hw : t.val < p.val + 256
    · rw [if_pos (show near t.val p.val from ⟨hp, hw⟩), decide_eq_true (by omega)]
      rfl
    · rw [if_neg (show ¬ near t.val p.val from fun h => hw h.2), decide_eq_false (by omega)]
      exact e0
  · rw [if_neg (show ¬ near t.val p.val from fun h => hp h.1), decide_eq_false hp]
    rcases BitVec.eq_zero_or_eq_one (IntOp.cmpi .slt (IntOp.subi (BitVec.ofNat 32 t.val) (BitVec.ofNat 32 p.val)) 256#32) with h | h <;> rw [h] <;> exact e0

end Cert.ReferenceIdeal.Value
end
-- ==== Proof.Ref4.lean ====
/- The reference's result, read at an index. -/
module

public import proofs.«01_k».proof.Proof.Ref3

@[expose] public section
noncomputable section
open Idealize.ShloMosaic Idealize.ShloMosaic.TcCoe Idealize.SL.Sem
namespace Cert.ReferenceIdeal.Value
open Cert.ReferenceIdeal Cert.ReferenceIdeal.Gen Cert.Nsa

variable (V0 : Valuation τ sig (Elt Ideal))

/-- The exponentials of an array's rows, each shifted by its greatest element. -/
def exps (X : FVec Ideal S4x2x4x1024x1024 .f32) : FVec Ideal S4x2x4x1024x1024 .f32 :=
  Host.exp (subf X (broadcastInDim S4x2x4x1024x1024 ![0, 1, 2, 3, 4] bcast_S4x2x4x1024x1_S4x2x4x1024x1024_0_1_2_3_4 (broadcastInDim S4x2x4x1024x1 ![0, 1, 2, 3] bcast_S4x2x4x1024_S4x2x4x1024x1_0_1_2_3 (maximumf (broadcastInDim S4x2x4x1024 ![] bcast_S_S4x2x4x1024 (constant S_ .f32 0xFF800000#32)) (Host.reduce FloatOps.maximumf X (constant S_ .f32 0xFF800000#32) reducesTo_S4x2x4x1024x1024_S4x2x4x1024_d4 h_S_)))))

/-- The shifted exponentials, at an index. -/
theorem exps_apply (X : FVec Ideal S4x2x4x1024x1024 .f32) (b : Fin 4) (h : Fin 2) (g : Fin 4) (t p : Fin 1024) :
    exps X (ix5 b h g t p) = Ideal.exp ((fun p => X (ix5 b h g t p) : Fin 1024 → EReal) p - top fun p : Fin 1024 => X (ix5 b h g t p)) := by
  unfold exps
  rw [max1024]
  pointwise
  rw [bits_bot, max_eq_right bot_le]

/-- The selected branch's masked logits over the keys, as a row. -/
def selRow (b : Fin 4) (h : Fin 2) (g : Fin 4) (t : Fin 1024) : Fin 1024 → EReal := fun p => res_main_v140 V0 (ix5 b h g t p)

/-- The selected branch's exponentials. -/
theorem v147_apply (b : Fin 4) (h : Fin 2) (g : Fin 4) (t p : Fin 1024) : res_main_v147 V0 (ix5 b h g t p) =
    Ideal.exp (selRow V0 b h g t p - top (selRow V0 b h g t)) := by
  have e : res_main_v147 V0 = exps (res_main_v140 V0) := by
    unfold res_main_v147 exps
    rfl
  rw [e]
  unfold selRow
  exact exps_apply (res_main_v140 V0) b h g t p

/-- The window branch's masked logits over the keys, as a row. -/
def winRow (b : Fin 4) (h : Fin 2) (g : Fin 4) (t : Fin 1024) : Fin 1024 → EReal := fun p => res_main_v156 V0 (ix5 b h g t p)

/-- The window branch's exponentials. -/
theorem v163_apply (b : Fin 4) (h : Fin 2) (g : Fin 4) (t p : Fin 1024) : res_main_v163 V0 (ix5 b h g t p) =
    Ideal.exp (winRow V0 b h g t p - top (winRow V0 b h g t)) := by
  have e : res_main_v163 V0 = exps (res_main_v156 V0) := by
    unfold res_main_v163 exps
    rfl
  rw [e]
  unfold winRow
  exact exps_apply (res_main_v156 V0) b h g t p

/-- The reference's compressed values. -/
theorem cv_apply (b : Fin 4) (x : Fin 63) (h : Fin 2) (d : Fin 128) : Host.dotGeneral (F := Ideal) (φ₁ := .f32) (φ₂ := .f32) dot_S4x63x2x4096_S4096x128_S4x63x2x128_3_0_012_1_n_n none (shapeCast _ (transpose S4x63x2x32x128 [0, 1, 3, 2, 4] (Host.gather gather_S4x1024x2x128_S63x32x1_S4x63x32x2x128_034_1_n_n_1_2_412128 (res_main_v4 V0) (broadcastInDim S63x32x1 ![0, 1] bcast_S63x32_S63x32x1_0_1 (select (cmpi .slt (res_main_v15 V0) (broadcastInDim S63x32 ![] bcast_S_S63x32 (constantI S_ 32 0#32))) (addi (res_main_v15 V0) (broadcastInDim S63x32 ![] bcast_S_S63x32 (constantI S_ 32 1024#32))) (res_main_v15 V0)))) transposes_S4x63x32x2x128_S4x63x2x32x128_0_1_3_2_4) shapeCasts_S4x63x2x32x128_S4x63x2x4096) (V0 (Proc.devRef .tc main_arg6)) (ix4 b x h d)
    = rcomp (refV V0) (refWv V0) b h x d := by
  pointwise
  unfold rcomp
  refine Finset.sum_congr rfl fun e _ => congrArg₂ (fun y z : EReal => y * z) ?_ rfl
  exact (gather_rows _ _ b x _ h _ ⟨16 * x.val + e.val / 128, by omega⟩ (wrap_rows V0 x ⟨e.val / 128, by omega⟩)).trans (v4_apply V0 b _ h _)

/-- The reference's compressed values, as an array. -/
theorem cv_fun : Host.dotGeneral (F := Ideal) (φ₁ := .f32) (φ₂ := .f32) dot_S4x63x2x4096_S4096x128_S4x63x2x128_3_0_012_1_n_n none (shapeCast _ (transpose S4x63x2x32x128 [0, 1, 3, 2, 4] (Host.gather gather_S4x1024x2x128_S63x32x1_S4x63x32x2x128_034_1_n_n_1_2_412128 (res_main_v4 V0) (broadcastInDim S63x32x1 ![0, 1] bcast_S63x32_S63x32x1_0_1 (select (cmpi .slt (res_main_v15 V0) (broadcastInDim S63x32 ![] bcast_S_S63x32 (constantI S_ 32 0#32))) (addi (res_main_v15 V0) (broadcastInDim S63x32 ![] bcast_S_S63x32 (constantI S_ 32 1024#32))) (res_main_v15 V0)))) transposes_S4x63x32x2x128_S4x63x2x32x128_0_1_3_2_4) shapeCasts_S4x63x2x32x128_S4x63x2x4096) (V0 (Proc.devRef .tc main_arg6))
    = fun i => rcomp (refV V0) (refWv V0) (i 0) (i 2) (i 1) (i 3) := by
  funext i
  have e : i = ix4 (i 0) (i 1) (i 2) (i 3) := funext fun a => by match a with | ⟨0, _⟩ => rfl | ⟨1, _⟩ => rfl | ⟨2, _⟩ => rfl | ⟨3, _⟩ => rfl
  rw [e]
  exact cv_apply V0 (i 0) (i 1) (i 2) (i 3)

/-- The reference's result as a term over its arguments. -/
def result : (Proc.devRef .tc main_v182 : DevRef τ sig).ty.Contents (Elt Ideal) :=
  shapeCast _ (addf (addf (mulf (broadcastInDim S4x1024x8x128 ![0, 1, 2, 3] bcast_S4x1024x8x1_S4x1024x8x128_0_1_2_3 (extractStridedSlice S4x1024x8x1 ![0, 0, 0, 0] (res_main_v111 V0) slices_S4x1024x8x3_S4x1024x8x1_0_0_0_0)) (shapeCast _ (transpose S4x1024x2x4x128 [0, 4, 1, 3, 2] (Host.dotGeneral (F := Ideal) (φ₁ := .f32) (φ₂ := .f32) dot_S4x1024x2x128_S4x2x4x1024x1024_S4x2x128x4x1024_1_4_3_23_02_01 none (res_main_v4 V0) (Host.divf (res_main_v147 V0) (broadcastInDim S4x2x4x1024x1024 ![0, 1, 2, 3, 4] bcast_S4x2x4x1024x1_S4x2x4x1024x1024_0_1_2_3_4 (broadcastInDim S4x2x4x1024x1 ![0, 1, 2, 3] bcast_S4x2x4x1024_S4x2x4x1024x1_0_1_2_3 (Host.reduceAdd (res_main_v147 V0) (constant S_ .f32 0x00000000#32) reducesTo_S4x2x4x1024x1024_S4x2x4x1024_d4 h_S_))))) transposes_S4x2x128x4x1024_S4x1024x2x4x128_0_4_1_3_2) shapeCasts_S4x1024x2x4x128_S4x1024x8x128)) (mulf (broadcastInDim S4x1024x8x128 ![0, 1, 2, 3] bcast_S4x1024x8x1_S4x1024x8x128_0_1_2_3 (extractStridedSlice S4x1024x8x1 ![0, 0, 0, 1] (res_main_v111 V0) slices_S4x1024x8x3_S4x1024x8x1_0_0_0_1)) (shapeCast _ (transpose S4x1024x2x4x128 [0, 4, 1, 3, 2] (Host.dotGeneral (F := Ideal) (φ₁ := .f32) (φ₂ := .f32) dot_S4x1024x2x128_S4x2x4x1024x1024_S4x2x128x4x1024_1_4_3_23_02_01 none (res_main_v4 V0) (Host.divf (res_main_v163 V0) (broadcastInDim S4x2x4x1024x1024 ![0, 1, 2, 3, 4] bcast_S4x2x4x1024x1_S4x2x4x1024x1024_0_1_2_3_4 (broadcastInDim S4x2x4x1024x1 ![0, 1, 2, 3] bcast_S4x2x4x1024_S4x2x4x1024x1_0_1_2_3 (Host.reduceAdd (res_main_v163 V0) (constant S_ .f32 0x00000000#32) reducesTo_S4x2x4x1024x1024_S4x2x4x1024_d4 h_S_))))) transposes_S4x2x128x4x1024_S4x1024x2x4x128_0_4_1_3_2) shapeCasts_S4x1024x2x4x128_S4x1024x8x128))) (mulf (broadcastInDim S4x1024x8x128 ![0, 1, 2, 3] bcast_S4x1024x8x1_S4x1024x8x128_0_1_2_3 (extractStridedSlice S4x1024x8x1 ![0, 0, 0, 2] (res_main_v111 V0) slices_S4x1024x8x3_S4x1024x8x1_0_0_0_2)) (shapeCast _ (transpose S4x1024x2x4x128 [0, 4, 1, 3, 2] (Host.dotGeneral (F := Ideal) (φ₁ := .f32) (φ₂ := .f32) dot_S4x63x2x128_S4x2x4x1024x63_S4x2x128x4x1024_1_4_3_23_02_01 none (Host.dotGeneral (F := Ideal) (φ₁ := .f32) (φ₂ := .f32) dot_S4x63x2x4096_S4096x128_S4x63x2x128_3_0_012_1_n_n none (shapeCast _ (transpose S4x63x2x32x128 [0, 1, 3, 2, 4] (Host.gather gather_S4x1024x2x128_S63x32x1_S4x63x32x2x128_034_1_n_n_1_2_412128 (res_main_v4 V0) (broadcastInDim S63x32x1 ![0, 1] bcast_S63x32_S63x32x1_0_1 (select (cmpi .slt (res_main_v15 V0) (broadcastInDim S63x32 ![] bcast_S_S63x32 (constantI S_ 32 0#32))) (addi (res_main_v15 V0) (broadcastInDim S63x32 ![] bcast_S_S63x32 (constantI S_ 32 1024#32))) (res_main_v15 V0)))) transposes_S4x63x32x2x128_S4x63x2x32x128_0_1_3_2_4) shapeCasts_S4x63x2x32x128_S4x63x2x4096) (V0 (Proc.devRef .tc main_arg6))) (res_main_v66 V0)) transposes_S4x2x128x4x1024_S4x1024x2x4x128_0_4_1_3_2) shapeCasts_S4x1024x2x4x128_S4x1024x8x128))) shapeCasts_S4x1024x8x128_S4096x8x128

/-- The reference's result, read at a row, head and lane. -/
theorem result_apply (b : Fin 4) (t : Fin 1024) (h : Fin 2) (g : Fin 4) (d : Fin 128) : result V0 (ix3 (row b t) (head h g) d) =
    refOut (refQ V0) (refK V0) (refV V0) (refWk V0) (refWv V0) (fun d j => V0 (Proc.devRef .tc main_arg7) (ix2 d j)) (fun j => V0 (Proc.devRef .tc main_arg8) (ix1 j)) b t h g d := by
  unfold result
  rw [cv_fun]
  pointwise
  have hb : (⟨(row b t).val / 1024, by omega⟩ : Fin 4) = b := Fin.ext (by simp only [row]; omega)
  have ht : (⟨(row b t).val % 1024, by omega⟩ : Fin 1024) = t := Fin.ext (by simp only [row]; omega)
  have hh : (⟨(head h g).val / 4, by omega⟩ : Fin 2) = h := Fin.ext (by simp only [head]; omega)
  have hg : (⟨(head h g).val % 4, by omega⟩ : Fin 4) = g := Fin.ext (by simp only [head]; omega)
  simp only [hb, ht, hh, hg]
  simp only [v111_apply, v4_apply, v66_apply, v147_apply, v163_apply]
  have hs : selRow V0 b h g t = fun p : Fin 1024 => if seen (rpool (fun x => ∑ g : Fin 4, cprob t.val (refQ V0 (row b t) (head h g)) (rcomp (refK V0) (refWk V0) b h) x)) t.val p.val then
        logit (refQ V0 (row b t) (head h g)) (refK V0 (row b p) h) else ⊥ := funext fun p => v140_apply V0 b h g t p
  have hw : winRow V0 b h g t = fun p : Fin 1024 => if near t.val p.val then logit (refQ V0 (row b t) (head h g)) (refK V0 (row b p) h) else ⊥ :=
    funext fun p => v156_apply V0 b h g t p
  unfold refOut
  rw [← hs, ← hw]
  unfold soft
  simp only [mul_comm (refV V0 _ _ _) _, mul_comm (rcomp (refV V0) (refWv V0) _ _ _ _) _]

end Cert.ReferenceIdeal.Value
end
-- ==== Proof.Finite.lean ====
/- What the precondition says of an array over the extended reals. -/
module

public import proofs.«01_k».proof.Defs
public import proofs.«01_k».proof.Proof.Gen.Pre_finite

@[expose] public section
noncomputable section
namespace Cert.Nsa
open Idealize.ShloMosaic Idealize.SL.Sem

/-- An extended real whose absolute value compares below infinity is a real. -/
theorem real_of_abs_lt (x : EReal) (h : FloatOps.cmpf (F := Ideal) (φ := .f32) .olt (FloatOps.absf (F := Ideal) (φ := .f32) x) (FloatOps.ofBits (F := Ideal) .f32 0x7F800000#32) = 1#1) :
    ∃ r : ℝ, x = (r : EReal) := by
  have ht : Ideal.ofBits FTy.f32 0x7F800000#32 = ⊤ := by
    simp [Ideal.ofBits, Ideal.ieee]
  change BitVec.ofBool (decide (max x (-x) < Ideal.ofBits FTy.f32 0x7F800000#32)) = 1#1 at h
  rw [ht] at h
  have hl : max x (-x) < ⊤ := by
    by_contra hn
    rw [decide_eq_false hn] at h
    exact absurd h (by decide)
  refine ⟨x.toReal, (EReal.coe_toReal ?_ ?_).symm⟩
  · rintro rfl
    simp at hl
  · rintro rfl
    simp at hl

variable (m : (ℓ : Loc Cert.KernelIdeal.nD Cert.KernelIdeal.τ Cert.KernelIdeal.sig) → Buf (Elt Ideal) ℓ) (c : Dev Cert.KernelIdeal.nD)
attribute [local instance] Cert.Pre_finite.Gen.facts

/-- Under the precondition the queries are real. -/
theorem real_q (hpre : Cert.Pre_KernelIdeal_finite m) (i) : ∃ r : ℝ, (m ((c.tc : Thread Cert.KernelIdeal.nD Cert.KernelIdeal.τ).loc Cert.KernelIdeal.main_arg0) i : EReal) = (r : EReal) :=
  real_of_abs_lt _ (congrFun (hpre c).1 i)

/-- Under the precondition the keys are real. -/
theorem real_k (hpre : Cert.Pre_KernelIdeal_finite m) (i) : ∃ r : ℝ, (m ((c.tc : Thread Cert.KernelIdeal.nD Cert.KernelIdeal.τ).loc Cert.KernelIdeal.main_arg1) i : EReal) = (r : EReal) :=
  real_of_abs_lt _ (congrFun (hpre c).2.1 i)

/-- Under the precondition the keys' compression weights are real. -/
theorem real_wk (hpre : Cert.Pre_KernelIdeal_finite m) (i) : ∃ r : ℝ, (m ((c.tc : Thread Cert.KernelIdeal.nD Cert.KernelIdeal.τ).loc Cert.KernelIdeal.main_arg5) i : EReal) = (r : EReal) :=
  real_of_abs_lt _ (congrFun (hpre c).2.2 i)

end Cert.Nsa
end
-- ==== Proof.KerRun.lean ====
/- The kernel's run over the extended reals: where it ends and with what in its result array. -/
module

public import proofs.«01_k».proof.Proof.Gen.KernelIdeal.Frame
public import Idealize.ShloMosaic.Adequacy
public import Idealize.ShloMosaic.Init

@[expose] public section
set_option maxRecDepth 16384
noncomputable section
namespace Cert.KernelIdeal.RefValue
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution of the kernel ends with its result array at the last boundary's contents and its arguments unchanged. -/
theorem ker_run : θ_run (defs (F := Ideal)) (onTc (τ := τ) (main (F := Ideal))) ⟨m, fun _ => 0, ρ⟩ (fun r => ∀ c : Dev nD,
      r.2.mem ((c.tc : Thread nD τ).loc main_v26) = W6 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v26 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.RefValue
end
-- ==== Proof.Value.lean ====
/- The kernel's result equals the reference's, over the extended reals. -/
module

public import proofs.«01_k».proof.Proof.Out
public import proofs.«01_k».proof.Proof.Equal
public import proofs.«01_k».proof.Proof.Ref4
public import proofs.«01_k».proof.Proof.Finite
public import proofs.«01_k».proof.Proof.KerRun

@[expose] public section
noncomputable section
open Idealize.ShloMosaic Idealize.ShloMosaic.TcCoe Idealize.SL.Sem
namespace Cert.Nsa
open Cert.KernelIdeal.RefValue Cert.ReferenceIdeal.Value

/-- An index of the result is a position of a sequence, a head of a key head and a lane. -/
theorem split_row (i : Cert.KernelIdeal.S4096x8x128.Idx) : ∃ (b : Fin 4) (t : Fin 1024) (h : Fin 2) (g : Fin 4) (d : Fin 128), i = ix3 (row b t) (head h g) d := by
  have h0 : (i 0).val < 4096 := (i 0).isLt
  have h1 : (i 1).val < 8 := (i 1).isLt
  refine ⟨⟨(i 0).val / 1024, by omega⟩, ⟨(i 0).val % 1024, by omega⟩, ⟨(i 1).val / 4, by omega⟩, ⟨(i 1).val % 4, by omega⟩, i 2, funext fun a => ?_⟩
  match a with
  | ⟨0, _⟩ => exact Fin.ext (show (i 0).val = 1024 * ((i 0).val / 1024) + (i 0).val % 1024 by omega)
  | ⟨1, _⟩ => exact Fin.ext (show (i 1).val = 4 * ((i 1).val / 4) + (i 1).val % 4 by omega)
  | ⟨2, _⟩ => rfl

attribute [local instance] Cert.Pre_finite.Gen.facts

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The kernel's result at a position, head and lane is the reference's function of its arguments. -/
theorem ker_out (hpre : Cert.Pre_KernelIdeal_finite m) (b : Fin 4) (t : Fin 1024) (h : Fin 2) (g : Fin 4) (d : Fin 128) :
    Cert.KernelIdeal.Gen.W6 m ρ c (Proc.devRef .tc Cert.KernelIdeal.main_v26) (ix3 (row b t) (head h g) d)
      = refOut (argQ m c) (argK m c) (argV m c) (argWk m c) (argWv m c) (argWg m c) (argBg m c) b t h g d := by
  refine (out6 m ρ c b t h g d).trans ((out5 m ρ c b t h g d).trans ?_)
  by_cases ht : t.val < 512
  · rw [if_pos ht]
    exact ker_eq_ref (argQ m c) (argK m c) (argV m c) (argWk m c) (argWv m c) b t h g d
      (fun r h d => real_q m c hpre _) (fun r h d => real_k m c hpre _) (fun r d => real_wk m c hpre _) (argWg m c) (argBg m c) 512 (by norm_num) ht
  · rw [if_neg ht]
    exact ker_eq_ref (argQ m c) (argK m c) (argV m c) (argWk m c) (argWv m c) b t h g d
      (fun r h d => real_q m c hpre _) (fun r h d => real_k m c hpre _) (fun r d => real_wk m c hpre _) (argWg m c) (argBg m c) 1024 le_rfl t.isLt

/-- The kernel's result array is the reference's, at launch contents that agree with its arguments. -/
theorem ker_result (hpre : Cert.Pre_KernelIdeal_finite m) (V0 : Valuation Cert.ReferenceIdeal.τ Cert.ReferenceIdeal.sig (Elt Ideal))
    (h0 : V0 (Proc.devRef .tc Cert.ReferenceIdeal.main_arg0) = m ((c.tc : Thread Cert.KernelIdeal.nD Cert.KernelIdeal.τ).loc Cert.KernelIdeal.main_arg0))
    (h1 : V0 (Proc.devRef .tc Cert.ReferenceIdeal.main_arg1) = m ((c.tc : Thread Cert.KernelIdeal.nD Cert.KernelIdeal.τ).loc Cert.KernelIdeal.main_arg1))
    (h2 : V0 (Proc.devRef .tc Cert.ReferenceIdeal.main_arg2) = m ((c.tc : Thread Cert.KernelIdeal.nD Cert.KernelIdeal.τ).loc Cert.KernelIdeal.main_arg2))
    (h5 : V0 (Proc.devRef .tc Cert.ReferenceIdeal.main_arg5) = m ((c.tc : Thread Cert.KernelIdeal.nD Cert.KernelIdeal.τ).loc Cert.KernelIdeal.main_arg5))
    (h6 : V0 (Proc.devRef .tc Cert.ReferenceIdeal.main_arg6) = m ((c.tc : Thread Cert.KernelIdeal.nD Cert.KernelIdeal.τ).loc Cert.KernelIdeal.main_arg6))
    (h7 : V0 (Proc.devRef .tc Cert.ReferenceIdeal.main_arg7) = m ((c.tc : Thread Cert.KernelIdeal.nD Cert.KernelIdeal.τ).loc Cert.KernelIdeal.main_arg7))
    (h8 : V0 (Proc.devRef .tc Cert.ReferenceIdeal.main_arg8) = m ((c.tc : Thread Cert.KernelIdeal.nD Cert.KernelIdeal.τ).loc Cert.KernelIdeal.main_arg8)) :
    result V0 = Cert.KernelIdeal.Gen.W6 m ρ c (Proc.devRef .tc Cert.KernelIdeal.main_v26) := by
  funext i
  obtain ⟨b, t, h, g, d, rfl⟩ := split_row i
  have e0 : refQ V0 = argQ m c := by funext r h d; exact congrFun h0 (ix3 r h d)
  have e1 : refK V0 = argK m c := by funext r h d; exact congrFun h1 (ix3 r h d)
  have e2 : refV V0 = argV m c := by funext r h d; exact congrFun h2 (ix3 r h d)
  have e5 : refWk V0 = argWk m c := by funext r d; exact congrFun h5 (ix2 r d)
  have e6 : refWv V0 = argWv m c := by funext r d; exact congrFun h6 (ix2 r d)
  have e7 : (fun d j => V0 (Proc.devRef .tc Cert.ReferenceIdeal.main_arg7) (ix2 d j)) = argWg m c := by funext d j; exact congrFun h7 (ix2 d j)
  have e8 : (fun j => V0 (Proc.devRef .tc Cert.ReferenceIdeal.main_arg8) (ix1 j)) = argBg m c := by funext j; exact congrFun h8 (ix1 j)
  refine (result_apply V0 b t h g d).trans ?_
  rw [e0, e1, e2, e5, e6, e7, e8]
  exact (ker_out m ρ c hpre b t h g d).symm

/-- The algebraic claim: from agreeing arguments that meet the precondition both programs run, and end with the same result. -/
theorem equal : @Cert.algebraic_KernelIdeal_ReferenceIdeal_pre_finite Cert.KernelIdeal.Gen.facts Cert.ReferenceIdeal.Gen.facts Cert.Pre_finite.Gen.facts := by
  intro m ρ m' ρ' hpre hagree
  refine ⟨fun c => Cert.KernelIdeal.Gen.W6 m ρ c (Proc.devRef .tc Cert.KernelIdeal.main_v26), ker_run m ρ, ?_⟩
  refine (θ_run Cert.ReferenceIdeal.defs _ _).mono (fun _ h c => ⟨(h c).1.trans ?_, (h c).2⟩) (Cert.ReferenceIdeal.Value.run (F := Ideal) m' ρ')
  obtain ⟨a0, a1, a2, -, -, a5, a6, a7, a8⟩ := hagree c
  have key := ker_result m ρ c hpre (StableHlo.launchContents m' c) a0 a1 a2 a5 a6 a7 a8
  unfold result at key
  exact key

end Cert.Nsa
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs, keeps its arguments and has no semaphore that could be left up. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Everything the certificate claims. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial,
  ⟨IdealRules.named_const.statement Cert.KernelIdeal.κ "scale" .f32 0x3DB504F3#32 (((Real.sqrt 128)⁻¹ : ℝ) : EReal) rfl,
    IdealRules.named_const.statement Cert.KernelIdeal.κ "mask" .f32 0xF149F2CA#32 ⊥ rfl⟩,
  Cert.Nsa.equal⟩

end Cert.Proof

end
